-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 2048]⟩ ⟨2, ![4096, 2048]⟩ (Layout.meshBlock [2, 2, 2] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) (main_arg2 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  main_v3
-- ==== Pre_finite_x_ReferenceIdeal.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) (main_arg2 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S2048x2048 : Shape := ⟨2, ![2048, 2048]⟩
abbrev S2048 : Shape := ⟨1, ![2048]⟩
abbrev S2x2048 : Shape := ⟨2, ![2, 2048]⟩
abbrev S4x128x2048 : Shape := ⟨3, ![4, 128, 2048]⟩
abbrev S8x2x2048 : Shape := ⟨3, ![8, 2, 2048]⟩
abbrev S8 : Shape := ⟨1, ![8]⟩
abbrev S7 : Shape := ⟨1, ![7]⟩
abbrev S1 : Shape := ⟨1, ![1]⟩
abbrev S_ : Shape := ⟨0, ![]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S1x1x2048 : Shape := ⟨3, ![1, 1, 2048]⟩
abbrev S1x2x2048 : Shape := ⟨3, ![1, 2, 2048]⟩

abbrev nBuf : Space → Nat
  | .hbm => 4
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2x2048, .f32⟩
  | .local _ .vmem, ⟨0, _⟩ => ⟨S2x2048, .f32⟩
  | .local _ .vmem, ⟨1, _⟩ => ⟨S4x128x2048, .f32⟩
  | .local _ .vmem, ⟨2, _⟩ => ⟨S4x128x2048, .f32⟩
  | .local _ .vmem, ⟨3, _⟩ => ⟨S8x2x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let c2_i32_5 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_5 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c512_i32 : BitVec 32 := 512#32
  let v15 : BitVec 32 := Scalar.muli v14 c512_i32
  let v16 : BitVec 32 := Scalar.addi v15 c0_i32
  let c0_i32_11 : BitVec 32 := 0#32
  ![v16.toNat, 0]
def k0_dev1 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_46 : BitVec 32 := 0#32
  let v65 : BitVec 32 := Scalar.xori v2 c0_i32_46
  let c4_i32_50 : BitVec 32 := 4#32
  let v68 : BitVec 32 := Scalar.muli v65 c4_i32_50
  let v69 : BitVec 32 := Scalar.addi c0_i32_51 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_47 : BitVec 32 := 0#32
  let v66 : BitVec 32 := Scalar.xori v5 c0_i32_47
  let c2_i32_52 : BitVec 32 := 2#32
  let v70 : BitVec 32 := Scalar.muli v66 c2_i32_52
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v67 : BitVec 32 := Scalar.xori v8 c1_i32_48
  let c1_i32_53 : BitVec 32 := 1#32
  let v72 : BitVec 32 := Scalar.muli v67 c1_i32_53
  let v73 : BitVec 32 := Scalar.addi v71 v72
  v73.toNat
def k0_dev2 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_54 : BitVec 32 := 0#32
  let v74 : BitVec 32 := Scalar.xori v2 c0_i32_54
  let c4_i32_58 : BitVec 32 := 4#32
  let v77 : BitVec 32 := Scalar.muli v74 c4_i32_58
  let v78 : BitVec 32 := Scalar.addi c0_i32_59 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_55 : BitVec 32 := 1#32
  let v75 : BitVec 32 := Scalar.xori v5 c1_i32_55
  let c2_i32_60 : BitVec 32 := 2#32
  let v79 : BitVec 32 := Scalar.muli v75 c2_i32_60
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_56 : BitVec 32 := 0#32
  let v76 : BitVec 32 := Scalar.xori v8 c0_i32_56
  let c1_i32_61 : BitVec 32 := 1#32
  let v81 : BitVec 32 := Scalar.muli v76 c1_i32_61
  let v82 : BitVec 32 := Scalar.addi v80 v81
  v82.toNat
def k0_dev3 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_62 : BitVec 32 := 0#32
  let v83 : BitVec 32 := Scalar.xori v2 c0_i32_62
  let c4_i32_66 : BitVec 32 := 4#32
  let v86 : BitVec 32 := Scalar.muli v83 c4_i32_66
  let v87 : BitVec 32 := Scalar.addi c0_i32_67 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_63 : BitVec 32 := 1#32
  let v84 : BitVec 32 := Scalar.xori v5 c1_i32_63
  let c2_i32_68 : BitVec 32 := 2#32
  let v88 : BitVec 32 := Scalar.muli v84 c2_i32_68
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v85 : BitVec 32 := Scalar.xori v8 c1_i32_64
  let c1_i32_69 : BitVec 32 := 1#32
  let v90 : BitVec 32 := Scalar.muli v85 c1_i32_69
  let v91 : BitVec 32 := Scalar.addi v89 v90
  v91.toNat
def k0_dev4 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_70 : BitVec 32 := 1#32
  let v92 : BitVec 32 := Scalar.xori v2 c1_i32_70
  let c4_i32_74 : BitVec 32 := 4#32
  let v95 : BitVec 32 := Scalar.muli v92 c4_i32_74
  let v96 : BitVec 32 := Scalar.addi c0_i32_75 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_71 : BitVec 32 := 0#32
  let v93 : BitVec 32 := Scalar.xori v5 c0_i32_71
  let c2_i32_76 : BitVec 32 := 2#32
  let v97 : BitVec 32 := Scalar.muli v93 c2_i32_76
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_72 : BitVec 32 := 0#32
  let v94 : BitVec 32 := Scalar.xori v8 c0_i32_72
  let c1_i32_77 : BitVec 32 := 1#32
  let v99 : BitVec 32 := Scalar.muli v94 c1_i32_77
  let v100 : BitVec 32 := Scalar.addi v98 v99
  v100.toNat
def k0_dev5 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_78 : BitVec 32 := 1#32
  let v101 : BitVec 32 := Scalar.xori v2 c1_i32_78
  let c4_i32_82 : BitVec 32 := 4#32
  let v104 : BitVec 32 := Scalar.muli v101 c4_i32_82
  let v105 : BitVec 32 := Scalar.addi c0_i32_83 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_79 : BitVec 32 := 0#32
  let v102 : BitVec 32 := Scalar.xori v5 c0_i32_79
  let c2_i32_84 : BitVec 32 := 2#32
  let v106 : BitVec 32 := Scalar.muli v102 c2_i32_84
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v103 : BitVec 32 := Scalar.xori v8 c1_i32_80
  let c1_i32_85 : BitVec 32 := 1#32
  let v108 : BitVec 32 := Scalar.muli v103 c1_i32_85
  let v109 : BitVec 32 := Scalar.addi v107 v108
  v109.toNat
def k0_dev6 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_86 : BitVec 32 := 1#32
  let v110 : BitVec 32 := Scalar.xori v2 c1_i32_86
  let c4_i32_90 : BitVec 32 := 4#32
  let v113 : BitVec 32 := Scalar.muli v110 c4_i32_90
  let v114 : BitVec 32 := Scalar.addi c0_i32_91 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_87 : BitVec 32 := 1#32
  let v111 : BitVec 32 := Scalar.xori v5 c1_i32_87
  let c2_i32_92 : BitVec 32 := 2#32
  let v115 : BitVec 32 := Scalar.muli v111 c2_i32_92
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_88 : BitVec 32 := 0#32
  let v112 : BitVec 32 := Scalar.xori v8 c0_i32_88
  let c1_i32_93 : BitVec 32 := 1#32
  let v117 : BitVec 32 := Scalar.muli v112 c1_i32_93
  let v118 : BitVec 32 := Scalar.addi v116 v117
  v118.toNat
def k0_dev7 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_94 : BitVec 32 := 1#32
  let v119 : BitVec 32 := Scalar.xori v2 c1_i32_94
  let c4_i32_98 : BitVec 32 := 4#32
  let v122 : BitVec 32 := Scalar.muli v119 c4_i32_98
  let v123 : BitVec 32 := Scalar.addi c0_i32_99 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_95 : BitVec 32 := 1#32
  let v120 : BitVec 32 := Scalar.xori v5 c1_i32_95
  let c2_i32_100 : BitVec 32 := 2#32
  let v124 : BitVec 32 := Scalar.muli v120 c2_i32_100
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v121 : BitVec 32 := Scalar.xori v8 c1_i32_96
  let c1_i32_101 : BitVec 32 := 1#32
  let v126 : BitVec 32 := Scalar.muli v121 c1_i32_101
  let v127 : BitVec 32 := Scalar.addi v125 v126
  v127.toNat
def k0_off2 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let v274 : Index := Scalar.indexCast v12
  let c0_189 : Index := 0#32
  let c0_190 : Index := 0#32
  ![v274.toNat, 0, 0]
def k0_off3 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let v278 : Index := Scalar.indexCast v12
  let c1_191 : Index := 1#32
  let c0_192 : Index := 0#32
  ![v278.toNat, 1, 0]
def k0_off4 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_200 : BitVec 32 := 0#32
  let c0_i32_201 : BitVec 32 := 0#32
  ![v12.toNat, 0, 0]
def k0_dev8 (d0 : Dev nD) : Nat :=
  let c0_i32_197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_46 : BitVec 32 := 0#32
  let v65 : BitVec 32 := Scalar.xori v2 c0_i32_46
  let c4_i32_196 : BitVec 32 := 4#32
  let v282 : BitVec 32 := Scalar.muli v65 c4_i32_196
  let v283 : BitVec 32 := Scalar.addi c0_i32_197 v282
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_47 : BitVec 32 := 0#32
  let v66 : BitVec 32 := Scalar.xori v5 c0_i32_47
  let c2_i32_198 : BitVec 32 := 2#32
  let v284 : BitVec 32 := Scalar.muli v66 c2_i32_198
  let v285 : BitVec 32 := Scalar.addi v283 v284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v67 : BitVec 32 := Scalar.xori v8 c1_i32_48
  let c1_i32_199 : BitVec 32 := 1#32
  let v286 : BitVec 32 := Scalar.muli v67 c1_i32_199
  let v287 : BitVec 32 := Scalar.addi v285 v286
  v287.toNat
def k0_dev9 (d0 : Dev nD) : Nat :=
  let c0_i32_207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_54 : BitVec 32 := 0#32
  let v74 : BitVec 32 := Scalar.xori v2 c0_i32_54
  let c4_i32_206 : BitVec 32 := 4#32
  let v296 : BitVec 32 := Scalar.muli v74 c4_i32_206
  let v297 : BitVec 32 := Scalar.addi c0_i32_207 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_55 : BitVec 32 := 1#32
  let v75 : BitVec 32 := Scalar.xori v5 c1_i32_55
  let c2_i32_208 : BitVec 32 := 2#32
  let v298 : BitVec 32 := Scalar.muli v75 c2_i32_208
  let v299 : BitVec 32 := Scalar.addi v297 v298
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_56 : BitVec 32 := 0#32
  let v76 : BitVec 32 := Scalar.xori v8 c0_i32_56
  let c1_i32_209 : BitVec 32 := 1#32
  let v300 : BitVec 32 := Scalar.muli v76 c1_i32_209
  let v301 : BitVec 32 := Scalar.addi v299 v300
  v301.toNat
def k0_dev10 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_62 : BitVec 32 := 0#32
  let v83 : BitVec 32 := Scalar.xori v2 c0_i32_62
  let c4_i32_216 : BitVec 32 := 4#32
  let v310 : BitVec 32 := Scalar.muli v83 c4_i32_216
  let v311 : BitVec 32 := Scalar.addi c0_i32_217 v310
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_63 : BitVec 32 := 1#32
  let v84 : BitVec 32 := Scalar.xori v5 c1_i32_63
  let c2_i32_218 : BitVec 32 := 2#32
  let v312 : BitVec 32 := Scalar.muli v84 c2_i32_218
  let v313 : BitVec 32 := Scalar.addi v311 v312
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v85 : BitVec 32 := Scalar.xori v8 c1_i32_64
  let c1_i32_219 : BitVec 32 := 1#32
  let v314 : BitVec 32 := Scalar.muli v85 c1_i32_219
  let v315 : BitVec 32 := Scalar.addi v313 v314
  v315.toNat
def k0_dev11 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_70 : BitVec 32 := 1#32
  let v92 : BitVec 32 := Scalar.xori v2 c1_i32_70
  let c4_i32_226 : BitVec 32 := 4#32
  let v324 : BitVec 32 := Scalar.muli v92 c4_i32_226
  let v325 : BitVec 32 := Scalar.addi c0_i32_227 v324
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_71 : BitVec 32 := 0#32
  let v93 : BitVec 32 := Scalar.xori v5 c0_i32_71
  let c2_i32_228 : BitVec 32 := 2#32
  let v326 : BitVec 32 := Scalar.muli v93 c2_i32_228
  let v327 : BitVec 32 := Scalar.addi v325 v326
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_72 : BitVec 32 := 0#32
  let v94 : BitVec 32 := Scalar.xori v8 c0_i32_72
  let c1_i32_229 : BitVec 32 := 1#32
  let v328 : BitVec 32 := Scalar.muli v94 c1_i32_229
  let v329 : BitVec 32 := Scalar.addi v327 v328
  v329.toNat
def k0_dev12 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_78 : BitVec 32 := 1#32
  let v101 : BitVec 32 := Scalar.xori v2 c1_i32_78
  let c4_i32_236 : BitVec 32 := 4#32
  let v338 : BitVec 32 := Scalar.muli v101 c4_i32_236
  let v339 : BitVec 32 := Scalar.addi c0_i32_237 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_79 : BitVec 32 := 0#32
  let v102 : BitVec 32 := Scalar.xori v5 c0_i32_79
  let c2_i32_238 : BitVec 32 := 2#32
  let v340 : BitVec 32 := Scalar.muli v102 c2_i32_238
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v103 : BitVec 32 := Scalar.xori v8 c1_i32_80
  let c1_i32_239 : BitVec 32 := 1#32
  let v342 : BitVec 32 := Scalar.muli v103 c1_i32_239
  let v343 : BitVec 32 := Scalar.addi v341 v342
  v343.toNat
def k0_dev13 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_86 : BitVec 32 := 1#32
  let v110 : BitVec 32 := Scalar.xori v2 c1_i32_86
  let c4_i32_246 : BitVec 32 := 4#32
  let v352 : BitVec 32 := Scalar.muli v110 c4_i32_246
  let v353 : BitVec 32 := Scalar.addi c0_i32_247 v352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_87 : BitVec 32 := 1#32
  let v111 : BitVec 32 := Scalar.xori v5 c1_i32_87
  let c2_i32_248 : BitVec 32 := 2#32
  let v354 : BitVec 32 := Scalar.muli v111 c2_i32_248
  let v355 : BitVec 32 := Scalar.addi v353 v354
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_88 : BitVec 32 := 0#32
  let v112 : BitVec 32 := Scalar.xori v8 c0_i32_88
  let c1_i32_249 : BitVec 32 := 1#32
  let v356 : BitVec 32 := Scalar.muli v112 c1_i32_249
  let v357 : BitVec 32 := Scalar.addi v355 v356
  v357.toNat
def k0_dev14 (d0 : Dev nD) : Nat :=
  let c0_i32_257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_94 : BitVec 32 := 1#32
  let v119 : BitVec 32 := Scalar.xori v2 c1_i32_94
  let c4_i32_256 : BitVec 32 := 4#32
  let v366 : BitVec 32 := Scalar.muli v119 c4_i32_256
  let v367 : BitVec 32 := Scalar.addi c0_i32_257 v366
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_95 : BitVec 32 := 1#32
  let v120 : BitVec 32 := Scalar.xori v5 c1_i32_95
  let c2_i32_258 : BitVec 32 := 2#32
  let v368 : BitVec 32 := Scalar.muli v120 c2_i32_258
  let v369 : BitVec 32 := Scalar.addi v367 v368
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v121 : BitVec 32 := Scalar.xori v8 c1_i32_96
  let c1_i32_259 : BitVec 32 := 1#32
  let v370 : BitVec 32 := Scalar.muli v121 c1_i32_259
  let v371 : BitVec 32 := Scalar.addi v369 v370
  v371.toNat
abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Schedule.lean ====
/-
# The exchange of partial sums, as a schedule of rounds

Eight devices. Device `c` copies eight blocks of its own arrays into scratch (local copies), tells each of its seven
peers that it has entered the kernel, computes its two rows of partial sums, waits until all seven peers have entered,
sends its two rows into its own slot of each peer's gather buffer, and waits for its seven sends and for the seven
receptions. Every semaphore that takes part is a cell with one round of duties:

* the local cells `lx k`, `ly k` (k < 4): one duty, paid by the device's own local copy; it returns the array's block and
  hands over the scratch window, filled;
* the barrier cell `bar`: seven duties, duty `k` paid by peer `k`'s signal; it hands over the slot of peer `k`'s gather
  buffer into which this device is going to send;
* the send cells `snd k` (k < 7): one duty, paid by the device's own copy to peer `k`; it returns the share of the device's
  own slot that the copy read;
* the receive cells `rcv k` (k < 7): one duty, paid by peer `k`'s copy; it hands over peer `k`'s slot of this device's
  gather buffer, holding peer `k`'s partial sums.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.GradSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A duty's name: which of seven. -/
abbrev D : Type := Fin 7

abbrev UX : Type := URounds (GSem nD τ sig) D
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-! ## Peers -/

/-- Peer `k` of device `c`: the device whose number differs from `c`'s by the bits of `k + 1`. -/
def peer (k : Fin 7) (c : Dev nD) : Dev nD :=
  ⟨(c.val ^^^ (k.val + 1)) % 8, Nat.mod_lt _ (by decide)⟩

theorem peer_peer (k : Fin 7) (c : Dev nD) : peer k (peer k c) = c := by revert k c; decide
theorem peer_ne (k : Fin 7) (c : Dev nD) : peer k c ≠ c := by revert k c; decide
theorem peer_inj {k k' : Fin 7} {c : Dev nD} (h : peer k c = peer k' c) : k = k' := by revert k k' c; decide

/-! ## Cells -/

/-- The semaphores of one device that take part: the local copies of `x` and of `dy`, the sends, the receptions, the barrier. -/
abbrev CI : Type := Fin 4 ⊕ Fin 4 ⊕ Fin 7 ⊕ Fin 7 ⊕ Unit
namespace CI
@[match_pattern] abbrev lx (k : Fin 4) : CI := .inl k
@[match_pattern] abbrev ly (k : Fin 4) : CI := .inr (.inl k)
@[match_pattern] abbrev snd (k : Fin 7) : CI := .inr (.inr (.inl k))
@[match_pattern] abbrev rcv (k : Fin 7) : CI := .inr (.inr (.inr (.inl k)))
@[match_pattern] abbrev bar : CI := .inr (.inr (.inr (.inr ())))
end CI

/-- The runtime's barrier semaphore. -/
abbrev barS : Sem sig := (SemArray.scalar (sig.barrier 0 rfl) : Sems sig S_).sem

/-- Where each lies among the device's semaphores. -/
def csem : CI → SemLoc sig
  | .lx k => .dma ⟨1 + 2 * k.val, by have := k.isLt; show _ < 23; omega⟩
  | .ly k => .dma ⟨2 + 2 * k.val, by have := k.isLt; show _ < 23; omega⟩
  | .snd k => .dma ⟨9 + k.val, by have := k.isLt; show _ < 23; omega⟩
  | .rcv k => .dma ⟨16 + k.val, by have := k.isLt; show _ < 23; omega⟩
  | .bar => .reg barS

/-- A semaphore's part in the protocol, if it has one. -/
def dec : SemLoc sig → Option CI
  | .reg q => if q = barS then some .bar else none
  | .dma q =>
    if q.val = 0 then none
    else if h : q.val < 9 then
      (if q.val % 2 = 1 then some (.lx ⟨(q.val - 1) / 2, by omega⟩) else some (.ly ⟨(q.val - 1) / 2, by omega⟩))
    else if h' : q.val < 16 then some (.snd ⟨q.val - 9, by omega⟩)
    else some (.rcv ⟨q.val - 16, by have : q.val < 23 := q.isLt; omega⟩)

theorem dec_csem (i : CI) : dec (csem i) = some i := by revert i; decide

theorem csem_inj : Function.Injective csem := fun i j h =>
  Option.some.inj ((dec_csem i).symm.trans ((congrArg dec h).trans (dec_csem j)))

/-- Cell `i` of device `c`. -/
abbrev kcell (ci : Dev nD × CI) : GSem nD τ sig := ((ci.1 : Thread nD τ), csem ci.2)

theorem kcell_inj : Function.Injective kcell := by
  rintro ⟨c, i⟩ ⟨c', i'⟩ h
  have h1 : c = c' := congrArg (fun g : GSem nD τ sig => g.1.1) h
  have h2 : i = i' := csem_inj (congrArg Prod.snd h)
  rw [h1, h2]

/-! ## Buffers, windows, blocks, slots -/

theorem win_inb (k : Fin 4) : ∀ a, (![k.val, 0, 0] : Fin 3 → ℕ) a + S1x128x2048.size a ≤ S4x128x2048.size a := by
  revert k; decide

/-- Window `k` of the scratch for `x`, of the scratch for `dy`. -/
abbrev xWin (k : Fin 4) : Memref sig .tc .vmem S128x2048 .f32 :=
  ((Memref.whole cc0_scratch0).slice (Rect.unit (s := S4x128x2048) ![k.val, 0, 0] S1x128x2048.size (win_inb k)) (fun _ => rfl)).squeeze
    S128x2048 squeezes_S1x128x2048_S128x2048
abbrev yWin (k : Fin 4) : Memref sig .tc .vmem S128x2048 .f32 :=
  ((Memref.whole cc0_scratch1).slice (Rect.unit (s := S4x128x2048) ![k.val, 0, 0] S1x128x2048.size (win_inb k)) (fun _ => rfl)).squeeze
    S128x2048 squeezes_S1x128x2048_S128x2048

/-- The block of `x` (of `dy`) that device `c` copies into window `k`. -/
abbrev xBlk (c : Dev nD) (k : Fin 4) : Memref sig .tc .hbm S128x2048 .f32 :=
  (Memref.whole main_arg0).slice (Rect.unit (s := S2048x2048) (k0_off1 c (BitVec.ofNat 32 (128 * k.val))) S128x2048.size (k0_off1_inb c k)) (fun _ => rfl)
abbrev yBlk (c : Dev nD) (k : Fin 4) : Memref sig .tc .hbm S128x2048 .f32 :=
  (Memref.whole main_arg1).slice (Rect.unit (s := S2048x2048) (k0_off1 c (BitVec.ofNat 32 (128 * k.val))) S128x2048.size (k0_off1_inb c k)) (fun _ => rfl)

/-- Slot `p` of a gather buffer. -/
abbrev slot (p : Dev nD) : Memref sig .tc .vmem S2x2048 .f32 :=
  ((Memref.whole cc0_scratch2).slice (Rect.unit (s := S8x2x2048) (k0_off4 p) S1x2x2048.size (k0_off4_inb p)) (fun _ => rfl)).squeeze
    S2x2048 squeezes_S1x2x2048_S2x2048

/-- What a local copy and what a remote copy credits. -/
abbrev NL : ℕ := (xWin 0).view.dmaCredit
abbrev NS : ℕ := (slot 0).view.dmaCredit
theorem NL_pos : 0 < NL := View.dmaCredit_pos _ (by decide)
theorem NS_pos : 0 < NS := View.dmaCredit_pos _ (by decide)

theorem credit_xWin (k : Fin 4) : (xWin k).view.dmaCredit = NL := rfl
theorem credit_yWin (k : Fin 4) : (yWin k).view.dmaCredit = NL := rfl
theorem credit_slot (p : Dev nD) : (slot p).view.dmaCredit = NS := rfl

end Cert.GradSums

end
-- ==== Proof.Contents.lean ====
/-
# What the buffers hold

The element sets of the windows, blocks and slots by coordinates, what the scratch for `x` and `dy` holds once the local
copies have landed, and what every gather buffer holds once all sends have landed: the same array on every device, whose
slot `p` is device `p`'s two rows of partial sums.
-/
module

public import proofs.«01_k».proof.Proof.Schedule
public import Idealize.ShloMosaic.Lib.ValueIdxCore
public import Idealize.ShloMosaic.Lib.Pointwise.Reshape

@[expose] public section

noncomputable section

namespace Cert.GradSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## Places -/

/-- The first row of the rows that device `c` works on. -/
def start (c : Dev nD) : ℕ := 1024 * (c.val / 4) + 512 * (c.val % 2)

theorem start_le (c : Dev nD) : start c + 512 ≤ 2048 := by have h : c.val < 8 := c.isLt; unfold start; omega

theorem off1_eq (c : Dev nD) (k : Fin 4) : k0_off1 c (BitVec.ofNat 32 (128 * k.val)) = ![start c + 128 * k.val, 0] := k0_off1_eq c k

theorem off4_eq (c : Dev nD) : k0_off4 c = ![c.val, 0, 0] := by
  rw [k0_off4_eq]; have h : 4 * (c.val / 4) + 2 * (c.val / 2 % 2) + c.val % 2 = c.val := by revert c; decide
  rw [h]
theorem off2_eq (c : Dev nD) : k0_off2 c = ![c.val, 0, 0] := by
  rw [k0_off2_eq]; have h : 4 * (c.val / 4) + 2 * (c.val / 2 % 2) + c.val % 2 = c.val := by revert c; decide
  rw [h]
theorem off3_eq (c : Dev nD) : k0_off3 c = ![c.val, 1, 0] := by
  rw [k0_off3_eq]; have h : 4 * (c.val / 4) + 2 * (c.val / 2 % 2) + c.val % 2 = c.val := by revert c; decide
  rw [h]

/-- Row `r`, column `j` of block `k` of device `c`'s part is row `start c + 128 k + r` of the array. -/
theorem emb_xBlk (c : Dev nD) (k : Fin 4) (y : S128x2048.Idx) :
    (xBlk c k).view.emb y = (ValueIdx.ix2 (⟨start c + 128 * k.val + (y 0).val, by have := start_le c; have := k.isLt; have : (y 0).val < 128 := (y 0).isLt; omega⟩ : Fin 2048) (y 1) : S2048x2048.Idx) := by
  funext a
  apply Fin.ext
  have h := congrFun (off1_eq c k) a
  show k0_off1 c (BitVec.ofNat 32 (128 * k.val)) a + 1 * (y a).val = _
  rw [h]
  match a with
  | ⟨0, _⟩ => show start c + 128 * k.val + 1 * (y 0).val = start c + 128 * k.val + (y 0).val; omega
  | ⟨1, _⟩ => show 0 + 1 * (y 1).val = (y 1).val; omega

theorem emb_yBlk (c : Dev nD) (k : Fin 4) (y : S128x2048.Idx) :
    (yBlk c k).view.emb y = (ValueIdx.ix2 (⟨start c + 128 * k.val + (y 0).val, by have := start_le c; have := k.isLt; have : (y 0).val < 128 := (y 0).isLt; omega⟩ : Fin 2048) (y 1) : S2048x2048.Idx) :=
  emb_xBlk c k y

theorem sq_win (y : S128x2048.Idx) :
    (Shape.reshapeEquiv (squeezes_S1x128x2048_S128x2048.numel_eq) y : S1x128x2048.Idx) = ValueIdx.ix3 (0 : Fin 1) (y 0) (y 1) := by
  refine Shape.reshapeEquiv_eq_of_vals _ _ _ ((y 0).val * 2048 + (y 1).val) ((y 0).val * 2048 + (y 1).val) ?_ ?_ rfl
  · refine (rowMajor_val3 (d := S1x128x2048.size) _ (128 * 2048) 2048 (by decide) (by decide)).trans ?_
    show 0 * (128 * 2048) + (y 0).val * 2048 + (y 1).val = _
    omega
  · exact rowMajor_val2 (d := S128x2048.size) _ 2048 (by decide)

/-- Row `r`, column `j` of window `k` is entry `(k, r, j)` of the scratch. -/
theorem emb_xWin (k : Fin 4) (y : S128x2048.Idx) : (xWin k).view.emb y = (ValueIdx.ix3 k (y 0) (y 1) : S4x128x2048.Idx) := by
  show (Rect.unit (s := S4x128x2048) ![k.val, 0, 0] S1x128x2048.size (win_inb k)).emb (Shape.reshapeEquiv (squeezes_S1x128x2048_S128x2048.numel_eq) y) = _
  rw [sq_win]
  funext a
  apply Fin.ext
  match a with
  | ⟨0, _⟩ => show k.val + 1 * 0 = k.val; omega
  | ⟨1, _⟩ => show 0 + 1 * (y 0).val = (y 0).val; omega
  | ⟨2, _⟩ => show 0 + 1 * (y 1).val = (y 1).val; omega
theorem emb_yWin (k : Fin 4) (y : S128x2048.Idx) : (yWin k).view.emb y = (ValueIdx.ix3 k (y 0) (y 1) : S4x128x2048.Idx) := emb_xWin k y

/-! ### The element sets -/

theorem mem_xWin {k : Fin 4} {i : S4x128x2048.Idx} : i ∈ (xWin k).view.set ↔ i 0 = k := by
  constructor
  · intro h
    obtain ⟨y, -, rfl⟩ := Finset.mem_map.mp h
    rw [emb_xWin]
  · intro h
    have e : (xWin k).view.emb (ValueIdx.ix2 (i 1) (i 2)) = i := by
      refine (emb_xWin k _).trans ?_
      funext a
      match a with
      | ⟨0, _⟩ => exact h.symm
      | ⟨1, _⟩ => rfl
      | ⟨2, _⟩ => rfl
    exact e ▸ View.emb_mem_set _ _
theorem mem_yWin {k : Fin 4} {i : S4x128x2048.Idx} : i ∈ (yWin k).view.set ↔ i 0 = k := by
  constructor
  · intro h
    obtain ⟨y, -, rfl⟩ := Finset.mem_map.mp h
    rw [emb_yWin]
  · intro h
    have e : (yWin k).view.emb (ValueIdx.ix2 (i 1) (i 2)) = i := by
      refine (emb_yWin k _).trans ?_
      funext a
      match a with
      | ⟨0, _⟩ => exact h.symm
      | ⟨1, _⟩ => rfl
      | ⟨2, _⟩ => rfl
    exact e ▸ View.emb_mem_set _ _

theorem mem_xBlk {c : Dev nD} {k : Fin 4} {i : S2048x2048.Idx} :
    i ∈ (xBlk c k).view.set ↔ start c + 128 * k.val ≤ (i 0).val ∧ (i 0).val < start c + 128 * k.val + 128 := by
  constructor
  · intro h
    obtain ⟨y, -, rfl⟩ := Finset.mem_map.mp h
    rw [emb_xBlk]
    have : (y 0).val < 128 := (y 0).isLt
    show start c + 128 * k.val ≤ start c + 128 * k.val + (y 0).val ∧ start c + 128 * k.val + (y 0).val < _
    omega
  · rintro ⟨h1, h2⟩
    have e : i = (xBlk c k).view.emb (ValueIdx.ix2 (⟨(i 0).val - (start c + 128 * k.val), by omega⟩ : Fin 128) (i 1)) := by
      rw [emb_xBlk]
      funext a
      apply Fin.ext
      match a with
      | ⟨0, _⟩ => show (i 0).val = start c + 128 * k.val + ((i 0).val - (start c + 128 * k.val)); omega
      | ⟨1, _⟩ => rfl
    rw [e]; exact View.emb_mem_set _ _
theorem mem_yBlk {c : Dev nD} {k : Fin 4} {i : S2048x2048.Idx} :
    i ∈ (yBlk c k).view.set ↔ start c + 128 * k.val ≤ (i 0).val ∧ (i 0).val < start c + 128 * k.val + 128 := by
  constructor
  · intro h
    obtain ⟨y, -, rfl⟩ := Finset.mem_map.mp h
    rw [emb_yBlk]
    have : (y 0).val < 128 := (y 0).isLt
    show start c + 128 * k.val ≤ start c + 128 * k.val + (y 0).val ∧ start c + 128 * k.val + (y 0).val < _
    omega
  · rintro ⟨h1, h2⟩
    have e : i = (yBlk c k).view.emb (ValueIdx.ix2 (⟨(i 0).val - (start c + 128 * k.val), by omega⟩ : Fin 128) (i 1)) := by
      rw [emb_yBlk]
      funext a
      apply Fin.ext
      match a with
      | ⟨0, _⟩ => show (i 0).val = start c + 128 * k.val + ((i 0).val - (start c + 128 * k.val)); omega
      | ⟨1, _⟩ => rfl
    rw [e]; exact View.emb_mem_set _ _

theorem mem_slot {p : Dev nD} {i : S8x2x2048.Idx} : i ∈ (slot p).view.set ↔ (i 0).val = p.val := by
  rw [show (slot p).view.set = ((View.whole cc0_scratch2).slice (Rect.unit (s := S8x2x2048) (k0_off4 p) S1x2x2048.size (k0_off4_inb p))).set from View.set_reshape _ _,
    View.set_slice_whole, Rect.mem_set_unit]
  have h := off4_eq p
  constructor
  · intro H
    have := H 0
    rw [h] at this
    have h1 : p.val ≤ (i 0).val ∧ (i 0).val < p.val + 1 := this
    omega
  · intro H a
    rw [h]
    match a with
    | ⟨0, _⟩ => show p.val ≤ (i 0).val ∧ (i 0).val < p.val + 1; omega
    | ⟨1, _⟩ => exact ⟨Nat.zero_le _, by show (i 1).val < 0 + 2; have : (i 1).val < 2 := (i 1).isLt; omega⟩
    | ⟨2, _⟩ => exact ⟨Nat.zero_le _, by show (i 2).val < 0 + 2048; have : (i 2).val < 2048 := (i 2).isLt; omega⟩

/-! ## Contents -/

/-- The scratch for `x` and for `dy` once filled: entry `(k, r, j)` is row `start c + 128 k + r` of the device's array. -/
def XB (c : Dev nD) : Buf (Elt F) ((c : Thread nD τ).loc cc0_scratch0) := fun (i : S4x128x2048.Idx) =>
  (m ((c : Thread nD τ).loc main_arg0) : S2048x2048.Idx → Elt F .f32)
    (ValueIdx.ix2 (⟨start c + 128 * (i 0).val + (i 1).val, by have := start_le c; have : (i 0).val < 4 := (i 0).isLt; have : (i 1).val < 128 := (i 1).isLt; omega⟩ : Fin 2048) (i 2))
def YB (c : Dev nD) : Buf (Elt F) ((c : Thread nD τ).loc cc0_scratch1) := fun (i : S4x128x2048.Idx) =>
  (m ((c : Thread nD τ).loc main_arg1) : S2048x2048.Idx → Elt F .f32)
    (ValueIdx.ix2 (⟨start c + 128 * (i 0).val + (i 1).val, by have := start_le c; have : (i 0).val < 4 := (i 0).isLt; have : (i 1).val < 128 := (i 1).isLt; omega⟩ : Fin 2048) (i 2))

/-- Block `k` of the scratch as a load reads it. -/
def vx (c : Dev nD) (k : Fin 4) : Vec F S1x128x2048 .f32 :=
  (Memref.whole cc0_scratch0).view.readAt (Elt F) (Rect.unit (s := S4x128x2048) ![k.val, 0, 0] S1x128x2048.size (win_inb k)).toLoadRect (XB m c)
def vy (c : Dev nD) (k : Fin 4) : Vec F S1x128x2048 .f32 :=
  (Memref.whole cc0_scratch1).view.readAt (Elt F) (Rect.unit (s := S4x128x2048) ![k.val, 0, 0] S1x128x2048.size (win_inb k)).toLoadRect (YB m c)

/-- The running sums over the blocks, as the kernel accumulates them: of `dy * xhat` and of `dy`. -/
def accG1 (c : Dev nD) : FVec F S2048 .f32 := k0_pay4 (k0_pay2 (vx m c 0)) (vy m c 0)
def accB1 (c : Dev nD) : FVec F S2048 .f32 := k0_pay5 (vy m c 0)
def accG2 (c : Dev nD) : FVec F S2048 .f32 := k0_pay8 (accG1 m c) (k0_pay6 (vx m c 1)) (vy m c 1)
def accB2 (c : Dev nD) : FVec F S2048 .f32 := k0_pay9 (accB1 m c) (vy m c 1)
def accG3 (c : Dev nD) : FVec F S2048 .f32 := k0_pay12 (accG2 m c) (k0_pay10 (vx m c 2)) (vy m c 2)
def accB3 (c : Dev nD) : FVec F S2048 .f32 := k0_pay13 (accB2 m c) (vy m c 2)
/-- A device's two rows of partial sums. -/
def row0 (c : Dev nD) : FVec F S1x1x2048 .f32 := k0_pay19 (accG3 m c) (k0_pay16 (vx m c 3)) (k0_pay17 (vx m c 3)) (vy m c 3)
def row1 (c : Dev nD) : FVec F S1x1x2048 .f32 := k0_pay20 (accB3 m c) (vy m c 3)

/-- Every gather buffer at the end: slot `p` holds device `p`'s two rows. -/
def GB : S8x2x2048.Idx → Elt F .f32 := fun i =>
  if (i 1).val = 0 then row0 m (i 0) (ValueIdx.ix3 (0 : Fin 1) (0 : Fin 1) (i 2)) else row1 m (i 0) (ValueIdx.ix3 (0 : Fin 1) (0 : Fin 1) (i 2))

/-- The result on every device. -/
def outV : FVec F S2x2048 .f32 := k0_pay1 (GB m)

/-! ### Landings -/

/-- A local copy of block `k` leaves the filled scratch's contents on window `k`. -/
theorem xWin_landed (c : Dev nD) (k : Fin 4) (fd : Buf (Elt F) ((c : Thread nD τ).loc cc0_scratch0)) :
    ∀ i ∈ (xWin k).view.set, (xWin k).view.write (Elt F) fd ((xBlk c k).view.read (Elt F) (m ((c : Thread nD τ).loc main_arg0))) Finset.univ i = XB m c i := by
  intro i hi
  obtain ⟨y, -, rfl⟩ := Finset.mem_map.mp hi
  rw [View.write_emb_of_mem _ _ (Finset.mem_univ _)]
  show (m ((c : Thread nD τ).loc main_arg0) : S2048x2048.Idx → Elt F .f32) ((xBlk c k).view.emb y) = XB m c ((xWin k).view.emb y)
  rw [emb_xBlk, emb_xWin]
  rfl
theorem yWin_landed (c : Dev nD) (k : Fin 4) (fd : Buf (Elt F) ((c : Thread nD τ).loc cc0_scratch1)) :
    ∀ i ∈ (yWin k).view.set, (yWin k).view.write (Elt F) fd ((yBlk c k).view.read (Elt F) (m ((c : Thread nD τ).loc main_arg1))) Finset.univ i = YB m c i := by
  intro i hi
  obtain ⟨y, -, rfl⟩ := Finset.mem_map.mp hi
  rw [View.write_emb_of_mem _ _ (Finset.mem_univ _)]
  show (m ((c : Thread nD τ).loc main_arg1) : S2048x2048.Idx → Elt F .f32) ((yBlk c k).view.emb y) = YB m c ((yWin k).view.emb y)
  rw [emb_yBlk, emb_yWin]
  rfl

/-- A copy of a slot into the same slot of another device's buffer leaves there what was read. -/
theorem slot_landed (p : Dev nD) (fd fs : S8x2x2048.Idx → Elt F .f32) :
    ∀ i ∈ (slot p).view.set, (slot p).view.write (Elt F) fd ((slot p).view.read (Elt F) fs) Finset.univ i = fs i := by
  intro i hi
  obtain ⟨y, -, rfl⟩ := Finset.mem_map.mp hi
  rw [View.write_emb_of_mem _ _ (Finset.mem_univ _)]
  rfl

/-- The two stores of a device into its own slot. -/
abbrev rowRect0 (c : Dev nD) : Rect S8x2x2048 := Rect.unit (s := S8x2x2048) (k0_off2 c) S1x1x2048.size (k0_off2_inb c)
abbrev rowRect1 (c : Dev nD) : Rect S8x2x2048 := Rect.unit (s := S8x2x2048) (k0_off3 c) S1x1x2048.size (k0_off3_inb c)
abbrev gath : Memref sig .tc .vmem S8x2x2048 .f32 := Memref.whole cc0_scratch2

theorem emb_row0 (c : Dev nD) (y : S1x1x2048.Idx) : (gath.access (rowRect0 c)).emb y = (ValueIdx.ix3 c (0 : Fin 2) (y 2) : S8x2x2048.Idx) := by
  funext a
  apply Fin.ext
  show k0_off2 c a + 1 * (y a).val = _
  rw [off2_eq]
  match a with
  | ⟨0, _⟩ => show c.val + 1 * (y 0).val = c.val; have : (y 0).val < 1 := (y 0).isLt; omega
  | ⟨1, _⟩ => show 0 + 1 * (y 1).val = 0; have : (y 1).val < 1 := (y 1).isLt; omega
  | ⟨2, _⟩ => show 0 + 1 * (y 2).val = (y 2).val; omega
theorem emb_row1 (c : Dev nD) (y : S1x1x2048.Idx) : (gath.access (rowRect1 c)).emb y = (ValueIdx.ix3 c (1 : Fin 2) (y 2) : S8x2x2048.Idx) := by
  funext a
  apply Fin.ext
  show k0_off3 c a + 1 * (y a).val = _
  rw [off3_eq]
  match a with
  | ⟨0, _⟩ => show c.val + 1 * (y 0).val = c.val; have : (y 0).val < 1 := (y 0).isLt; omega
  | ⟨1, _⟩ => show 1 + 1 * (y 1).val = 1; have : (y 1).val < 1 := (y 1).isLt; omega
  | ⟨2, _⟩ => show 0 + 1 * (y 2).val = (y 2).val; omega

theorem row0_sub (c : Dev nD) : (gath.access (rowRect0 c)).set ⊆ (slot c).view.set := by
  intro i hi
  obtain ⟨y, -, rfl⟩ := Finset.mem_map.mp hi
  rw [emb_row0]; exact mem_slot.mpr rfl
theorem row1_sub (c : Dev nD) : (gath.access (rowRect1 c)).set ⊆ (slot c).view.set := by
  intro i hi
  obtain ⟨y, -, rfl⟩ := Finset.mem_map.mp hi
  rw [emb_row1]; exact mem_slot.mpr rfl

theorem ix3_unit (y : S1x1x2048.Idx) : y = ValueIdx.ix3 (0 : Fin 1) (0 : Fin 1) (y 2) := by
  funext a
  match a with
  | ⟨0, _⟩ => exact Fin.ext (by have : (y 0).val < 1 := (y 0).isLt; show (y 0).val = 0; omega)
  | ⟨1, _⟩ => exact Fin.ext (by have : (y 1).val < 1 := (y 1).isLt; show (y 1).val = 0; omega)
  | ⟨2, _⟩ => rfl

/-- After both stores a device's own slot holds what the final gather buffer holds there. -/
theorem slot_stored (c : Dev nD) (f : S8x2x2048.Idx → Elt F .f32) :
    ∀ i ∈ (slot c).view.set,
      (gath.access (rowRect1 c)).write (Elt F) ((gath.access (rowRect0 c)).write (Elt F) f (row0 m c) Finset.univ) (row1 m c) Finset.univ i = GB m i := by
  intro i hi
  have h0 : i 0 = c := Fin.ext (mem_slot.mp hi)
  by_cases h1 : (i 1).val = 0
  · have e : i = (gath.access (rowRect0 c)).emb (ValueIdx.ix3 (0 : Fin 1) (0 : Fin 1) (i 2)) := by
      rw [emb_row0]
      funext a
      match a with
      | ⟨0, _⟩ => exact h0
      | ⟨1, _⟩ => exact Fin.ext h1
      | ⟨2, _⟩ => rfl
    rw [View.write_of_not_mem _ _ _ (by
      intro hm
      obtain ⟨y, -, hy⟩ := Finset.mem_map.mp hm
      rw [emb_row1] at hy
      have := congrArg (fun j : S8x2x2048.Idx => (j 1).val) hy
      have h2 : (1 : ℕ) = (i 1).val := this
      omega)]
    conv_lhs => rw [e, View.write_emb_of_mem _ _ (Finset.mem_univ _)]
    unfold GB
    rw [if_pos h1, h0]
    rfl
  · have h1' : (i 1).val = 1 := by have : (i 1).val < 2 := (i 1).isLt; omega
    have e : i = (gath.access (rowRect1 c)).emb (ValueIdx.ix3 (0 : Fin 1) (0 : Fin 1) (i 2)) := by
      rw [emb_row1]
      funext a
      match a with
      | ⟨0, _⟩ => exact h0
      | ⟨1, _⟩ => exact Fin.ext h1'
      | ⟨2, _⟩ => rfl
    conv_lhs => rw [e, View.write_emb_of_mem _ _ (Finset.mem_univ _)]
    unfold GB
    rw [if_neg h1, h0]
    rfl

end Cert.GradSums

end
-- ==== Proof.Protocol.lean ====
/-
# The schedule's tables

What each duty pays and hands over, what is expected of each cell, what each device owes at launch, and the levels by
which its waits are allowed.
-/
module

public import proofs.«01_k».proof.Proof.Contents
public import Idealize.ShloMosaic.Lib.Transfers

@[expose] public section

noncomputable section

namespace Cert.GradSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Held pieces of buffers -/

/-- Window `k` of the scratch for `x` (for `dy`), holding `f` there. -/
def xWinP (c : Dev nD) (k : Fin 4) (f : Buf (Elt F) ((xWin k).view.loc (c : Thread nD τ))) : sProp 𝕄 :=
  (xWin k).view.loc (c : Thread nD τ) ↦[(xWin k).view.set]{fullShare} f
def yWinP (c : Dev nD) (k : Fin 4) (f : Buf (Elt F) ((yWin k).view.loc (c : Thread nD τ))) : sProp 𝕄 :=
  (yWin k).view.loc (c : Thread nD τ) ↦[(yWin k).view.set]{fullShare} f
/-- The device's block of its array `x` (its array `dy`), as at launch. -/
def xBlkP (c : Dev nD) (k : Fin 4) : sProp 𝕄 :=
  (xBlk c k).view.loc (c : Thread nD τ) ↦[(xBlk c k).view.set]{fullShare} m ((c : Thread nD τ).loc main_arg0)
def yBlkP (c : Dev nD) (k : Fin 4) : sProp 𝕄 :=
  (yBlk c k).view.loc (c : Thread nD τ) ↦[(yBlk c k).view.set]{fullShare} m ((c : Thread nD τ).loc main_arg1)
/-- Slot `p` of device `c`'s gather buffer, at share `q`, holding `f` there. -/
def slotP (c p : Dev nD) (q : PosShare TreeShare) (f : Buf (Elt F) ((slot p).view.loc (c : Thread nD τ))) : sProp 𝕄 :=
  (slot p).view.loc (c : Thread nD τ) ↦[(slot p).view.set]{q} f

/-! ## The schedule -/

/-- What the payment of duty `d` hands over to cell `i` of device `c`. -/
def pay (c : Dev nD) : CI → D → sProp 𝕄
  | .lx k, _ => iprop(xWinP c k (XB m c) ∗ xBlkP m c k)
  | .ly k, _ => iprop(yWinP c k (YB m c) ∗ yBlkP m c k)
  | .snd k, _ => slotP c c (Transfers.shareTok fullShare 7 k) (GB m)
  | .rcv k, _ => slotP c (peer k c) fullShare (GB m)
  | .bar, d => iprop(∃ f, slotP (peer d c) c fullShare f)

/-- What this device hands to peer `k` at the barrier, and by its copy. -/
theorem pay_bar_peer (c : Dev nD) (k : Fin 7) : pay m (peer k c) .bar k = iprop(∃ f, slotP (F := F) c (peer k c) fullShare f) := by
  show iprop(∃ f, slotP (F := F) (peer k (peer k c)) (peer k c) fullShare f) = _
  rw [peer_peer]
theorem pay_rcv_peer (c : Dev nD) (k : Fin 7) (d : D) : pay m (peer k c) (.rcv k) d = slotP (peer k c) c fullShare (GB m) := by
  show slotP (peer k c) (peer k (peer k c)) fullShare (GB m) = _
  rw [peer_peer]

instance pay_storable (c : Dev nD) (i : CI) (d : D) : BI.Storable (upEmb : UEmb _ 𝕄) (pay m c i d) := by
  rcases i with k | k | k | k | u <;> unfold pay <;> (try unfold xWinP xBlkP) <;> (try unfold yWinP yBlkP) <;> (try unfold slotP) <;> infer_instance

/-- The duties of a cell's one round: the seven peers' signals at the barrier, one copy elsewhere. -/
def dutiesOf : CI → Finset D
  | .bar => Finset.univ
  | _ => {0}

/-- What one duty pays. -/
def amountOf : CI → ℕ
  | .lx _ => NL
  | .ly _ => NL
  | .snd _ => NS
  | .rcv _ => NS
  | .bar => 1

theorem amountOf_pos (i : CI) : 0 < amountOf i := by
  rcases i with k | k | k | k | u
  · exact NL_pos
  · exact NL_pos
  · exact NS_pos
  · exact NS_pos
  · exact Nat.one_pos

/-- What a cell is paid in all. -/
def totalOf : CI → ℕ
  | .bar => 7
  | i => amountOf i

def Rd : Rounds.Schedule (GSem nD τ sig) D 𝕄 where
  duties g r := if r = 0 ∧ g.1.2 = .tc then (match dec g.2 with | some i => dutiesOf i | none => ∅) else ∅
  unitless _ := False
  amount g _ _ := match dec g.2 with | some i => amountOf i | none => 1
  payload g _ d := match dec g.2 with | some i => pay m g.1.1 i d | none => iprop(emp)
  amount_pos g _ _ _ := by
    show 0 < (match dec g.2 with | some i => amountOf i | none => 1)
    split
    · exact amountOf_pos _
    · exact Nat.one_pos

instance Rd_payload_storable (g : GSem nD τ sig) (r : ℕ) (d : D) : BI.Storable (upEmb : UEmb _ 𝕄) ((Rd (F := F) m).payload g r d) := by
  show BI.Storable upEmb (match dec g.2 with | some i => pay m g.1.1 i d | none => iprop(emp))
  split <;> infer_instance

theorem duties_kcell (c : Dev nD) (i : CI) : (Rd (F := F) m).duties (kcell (c, i)) 0 = dutiesOf i := by
  dsimp only [Rd]; rw [if_pos ⟨rfl, rfl⟩, dec_csem]
theorem duties_later (g : GSem nD τ sig) : ∀ r, 1 ≤ r → (Rd (F := F) m).duties g r = ∅ :=
  fun r hr => by dsimp only [Rd]; exact if_neg fun h => by omega
theorem amount_kcell (c : Dev nD) (i : CI) (r : ℕ) (d : D) : (Rd (F := F) m).amount (kcell (c, i)) r d = amountOf i := by
  dsimp only [Rd]; rw [dec_csem]
theorem payload_kcell (c : Dev nD) (i : CI) (r : ℕ) (d : D) : (Rd (F := F) m).payload (kcell (c, i)) r d = pay m c i d := by
  dsimp only [Rd]; rw [dec_csem]

theorem expect_kcell (c : Dev nD) (i : CI) : (Rd (F := F) m).expect (kcell (c, i)) 0 = totalOf i := by
  unfold Schedule.expect Schedule.amountOf
  rw [duties_kcell, Finset.sum_congr rfl fun d _ => amount_kcell m c i 0 d]
  rcases i with k | k | k | k | u
  · exact Finset.sum_singleton _ _
  · exact Finset.sum_singleton _ _
  · exact Finset.sum_singleton _ _
  · exact Finset.sum_singleton _ _
  · rfl

/-- All that a cell's round hands over. -/
theorem rest_kcell (c : Dev nD) (i : CI) :
    bigSep ((Rd (F := F) m).duties (kcell (c, i)) 0 \ ∅) (fun d => (Rd (F := F) m).payload (kcell (c, i)) 0 d) = bigSep (dutiesOf i) (pay m c i) := by
  rw [Finset.sdiff_empty, duties_kcell]
  exact congrArg (bigSep (dutiesOf i)) (funext fun d => payload_kcell m c i 0 d)

/-! ## What each device owes -/

/-- What device `c` owes the receive cells of the peers in the list. -/
def OR (c : Dev nD) : List (Fin 7) → CellTallies nD τ sig Unit
  | [] => 0
  | k :: l => OR c l + tallyAt (kcell (peer k c, .rcv k)) () NS
/-- With that, what it owes all receive cells and the barrier cells of the peers in the list. -/
def OB (c : Dev nD) : List (Fin 7) → CellTallies nD τ sig Unit
  | [] => OR c [0, 1, 2, 3, 4, 5, 6]
  | k :: l => OB c l + tallyAt (kcell (peer k c, .bar)) () 1
/-- What it owes at launch. -/
def O₀ (c : Dev nD) : CellTallies nD τ sig Unit := OB c [0, 1, 2, 3, 4, 5, 6]

def L (g : GSem nD τ sig) : Finset Unit := if g.1.2 = .tc then {()} else ∅
/-- Barrier cells at 1, receive cells at 2, everything else at 0. -/
def lvOf : Option CI → ℕ
  | some .bar => 1
  | some (.rcv _) => 2
  | _ => 0
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (i : CI) (u : Unit) : lv (kcell (c, i)) u = lvOf (some i) := by unfold lv; rw [dec_csem]

theorem OR_pos {c : Dev nD} {l : List (Fin 7)} {g : GSem nD τ sig} {u : Unit} (h : 0 < OR c l g u) : ∃ k, g = kcell (peer k c, .rcv k) := by
  induction l with
  | nil => exact absurd h (Nat.lt_irrefl 0)
  | cons k l ih =>
    unfold OR at h
    rw [Pi.add_apply, Finsupp.add_apply, tallyAt_apply] at h
    by_cases hk : g = kcell (peer k c, .rcv k) ∧ u = ()
    · exact ⟨k, hk.1⟩
    · rw [if_neg hk] at h; exact ih h

theorem OB_pos {c : Dev nD} {l : List (Fin 7)} {g : GSem nD τ sig} {u : Unit} (h : 0 < OB c l g u) :
    (∃ k, g = kcell (peer k c, .rcv k)) ∨ ∃ k, g = kcell (peer k c, .bar) := by
  induction l with
  | nil => exact .inl (OR_pos h)
  | cons k l ih =>
    unfold OB at h
    rw [Pi.add_apply, Finsupp.add_apply, tallyAt_apply] at h
    by_cases hk : g = kcell (peer k c, .bar) ∧ u = ()
    · exact .inr ⟨k, hk.1⟩
    · rw [if_neg hk] at h; exact ih h

/-- A wait at level 0 is allowed while a device owes barrier and receive cells only. -/
theorem mayWait_OB (c : Dev nD) (sm : SemLoc sig) (h0 : lvOf (dec sm) = 0) (l : List (Fin 7)) :
    (levAts L lv : sProp 𝕄) ⊢ MayWait (c : Thread nD τ) sm () (OB c l) :=
  MayOwe.of_cut (L := L) (lev := lv) 0 (fun p hp => by rw [Finset.mem_singleton.mp hp, L_tc]; exact Finset.mem_singleton_self _)
    (fun g u hg => by rcases OB_pos hg with ⟨k, rfl⟩ | ⟨k, rfl⟩ <;> exact Finset.mem_singleton_self _)
    (fun p hp => by rw [Finset.mem_singleton.mp hp]; exact h0.le)
    (fun g u hg => by
      rcases OB_pos hg with ⟨k, rfl⟩ | ⟨k, rfl⟩
      · rw [lv_kcell]; exact Nat.zero_lt_two
      · rw [lv_kcell]; exact Nat.zero_lt_one)

/-- The barrier wait is allowed while it owes receive cells only. -/
theorem mayWait_bar (c : Dev nD) (l : List (Fin 7)) : (levAts L lv : sProp 𝕄) ⊢ MayWait (c : Thread nD τ) (csem .bar) () (OR c l) :=
  MayOwe.of_cut (L := L) (lev := lv) 1 (fun p hp => by rw [Finset.mem_singleton.mp hp, L_tc]; exact Finset.mem_singleton_self _)
    (fun g u hg => by obtain ⟨k, rfl⟩ := OR_pos hg; exact Finset.mem_singleton_self _)
    (fun p hp => by rw [Finset.mem_singleton.mp hp]; show lv (kcell (c, .bar)) () ≤ 1; rw [lv_kcell]; decide)
    (fun g u hg => by obtain ⟨k, rfl⟩ := OR_pos hg; rw [lv_kcell]; exact Nat.one_lt_two)

/-- A wait is allowed while nothing is owed. -/
theorem mayWait_none (c : Dev nD) (sm : SemLoc sig) : (levAts L lv : sProp 𝕄) ⊢ MayWait (c : Thread nD τ) sm () 0 := by
  rw [MayWait_zero]; iintro -; iempintro

/-! ## The records -/

/-- Every cell's invariant, under the names `K`, and that every cell has reached its round 0. -/
def records (K : Dev nD × CI → ℕ) : sProp 𝕄 :=
  bigSep Finset.univ fun ci : Dev nD × CI => iprop(cellInv ER (Rd m) (K ci) (kcell ci) ∗ reached ER (kcell ci) 0)

instance records_persistent (K : Dev nD × CI → ℕ) : BI.Persistent (records m K) := by unfold records; infer_instance

theorem records_at (K : Dev nD × CI → ℕ) (ci : Dev nD × CI) :
    records m K ⊢ iprop(cellInv ER (Rd m) (K ci) (kcell ci) ∗ reached ER (kcell ci) 0) :=
  bigSep_elim (Finset.mem_univ ci)

/-- The tally of what a device owes, whatever waits it has already been granted. -/
def owesAny (c : Dev nD) (O : CellTallies nD τ sig Unit) : sProp 𝕄 := iprop(∃ W, owes (c : Thread nD τ) O W)

end Cert.GradSums

end
-- ==== Proof.Steps.lean ====
/-
# The steps of the kernel

One rule for each kind of step the body takes that concerns other threads or copies: starting a local copy, signalling a
peer, sending to a peer, and waiting on each kind of cell. Each is stated once, for every device and every index.
-/
module

public import proofs.«01_k».proof.Proof.Protocol

@[expose] public section

noncomputable section

namespace Cert.GradSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a part of device `c`'s kernel. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Waiting and local copies -/

/-- What a wait on cell `i` needs: the credit for all that the cell will be paid, and the position before its round. -/
def waitReady (c : Dev nD) (i : CI) : sProp 𝕄 :=
  iprop(cred (tallyAt (kcell (c, i)) () (totalOf i)) ∗ atPos ER (kcell (c, i)) 0 ∅ 0)

/-- What a local copy of block `k` needs: the window, the block, the duty's token, and the position from which its wait starts. -/
def xReady (c : Dev nD) (k : Fin 4) : sProp 𝕄 :=
  iprop((∃ f, xWinP c k f) ∗ xBlkP m c k ∗ dutyTok ER (kcell (c, .lx k)) 0 (0 : D) ∗ atPos ER (kcell (c, .lx k)) 0 ∅ 0)
def yReady (c : Dev nD) (k : Fin 4) : sProp 𝕄 :=
  iprop((∃ f, yWinP c k f) ∗ yBlkP m c k ∗ dutyTok ER (kcell (c, .ly k)) 0 (0 : D) ∗ atPos ER (kcell (c, .ly k)) 0 ∅ 0)

theorem wp_xcopy (K : Dev nD × CI → ℕ) (c : Dev nD) (k : Fin 4) {hsrc : (xBlk c k).view.WordExact} {hdst : (xWin k).view.WordExact}
    {hsem : DmaTarget.Typed (nD := nD) .hbm (csem (.lx k)) (.here (p := .tc) (xWin k))}
    {α : Type} {Q : α → sProp 𝕄} {kk : PUnit → Prog (TpuEff nD τ sig (Elt F) Λ₀ .tc) α} :
    iprop(records m K ∗ xReady m c k)
      ⊢ iprop((waitReady c (.lx k) -∗ wpc c (kk ⟨⟩) Q)
          -∗ wpc c (.op (.enqueueDma (xBlk c k) (.here (xWin k)) (csem (.lx k)) hsrc hdst hsem) kk) Q) := by
  unfold xReady
  iintro ⟨#HR, Hw, Hb, Ht, Ha⟩ Hk
  icases Hw with ⟨%f, Hw⟩
  ihave #Hc := (records_at m K (c, .lx k)) $$ HR
  icases Hc with ⟨#HI, #Hr⟩
  iapply (Rounds.wp_copy_pointsTo 𝒱₀ ER (Rd m) (c : Thread nD τ) none (src := xBlk c k) (dst := xWin k) (sem := csem (.lx k))
    (r := 0) (d := (0 : D)) (κ := K (c, .lx k)) (fd := f) (fs := m ((c : Thread nD τ).loc main_arg0)) (q := fullShare)
    (by rw [duties_kcell]; exact Finset.mem_singleton_self _) () NL rfl (amount_kcell m c (.lx k) 0 0)
    (by
      rw [payload_kcell]
      unfold pay xWinP xBlkP
      exact sep_mono_left (Entails.of_eq (pointsTo_congr (xWin_landed m c k f))))) $$ [Hw Hb Ht] [Hk Ha]
  rotate_left
  · iintro HC
    iapply Hk
    unfold waitReady
    isplitl [HC]; · iexact HC
    iexact Ha
  isplitl []; · iexact HI
  isplitl [Hb]; · unfold xBlkP; iexact Hb
  isplitl [Hw]; · unfold xWinP; iexact Hw
  isplitl [Ht]; · iexact Ht
  iexact Hr

theorem wp_ycopy (K : Dev nD × CI → ℕ) (c : Dev nD) (k : Fin 4) {hsrc : (yBlk c k).view.WordExact} {hdst : (yWin k).view.WordExact}
    {hsem : DmaTarget.Typed (nD := nD) .hbm (csem (.ly k)) (.here (p := .tc) (yWin k))}
    {α : Type} {Q : α → sProp 𝕄} {kk : PUnit → Prog (TpuEff nD τ sig (Elt F) Λ₀ .tc) α} :
    iprop(records m K ∗ yReady m c k)
      ⊢ iprop((waitReady c (.ly k) -∗ wpc c (kk ⟨⟩) Q)
          -∗ wpc c (.op (.enqueueDma (yBlk c k) (.here (yWin k)) (csem (.ly k)) hsrc hdst hsem) kk) Q) := by
  unfold yReady
  iintro ⟨#HR, Hw, Hb, Ht, Ha⟩ Hk
  icases Hw with ⟨%f, Hw⟩
  ihave #Hc := (records_at m K (c, .ly k)) $$ HR
  icases Hc with ⟨#HI, #Hr⟩
  iapply (Rounds.wp_copy_pointsTo 𝒱₀ ER (Rd m) (c : Thread nD τ) none (src := yBlk c k) (dst := yWin k) (sem := csem (.ly k))
    (r := 0) (d := (0 : D)) (κ := K (c, .ly k)) (fd := f) (fs := m ((c : Thread nD τ).loc main_arg1)) (q := fullShare)
    (by rw [duties_kcell]; exact Finset.mem_singleton_self _) () NL rfl (amount_kcell m c (.ly k) 0 0)
    (by
      rw [payload_kcell]
      unfold pay yWinP yBlkP
      exact sep_mono_left (Entails.of_eq (pointsTo_congr (yWin_landed m c k f))))) $$ [Hw Hb Ht] [Hk Ha]
  rotate_left
  · iintro HC
    iapply Hk
    unfold waitReady
    isplitl [HC]; · iexact HC
    iexact Ha
  isplitl []; · iexact HI
  isplitl [Hb]; · unfold yBlkP; iexact Hb
  isplitl [Hw]; · unfold yWinP; iexact Hw
  isplitl [Ht]; · iexact Ht
  iexact Hr

/-! ## Signals -/

/-- What the signal to peer `k` hands over: the slot of this device's gather buffer that the peer will fill. -/
def sigReady (c : Dev nD) (k : Fin 7) : sProp 𝕄 :=
  iprop((∃ f, slotP (F := F) c (peer k c) fullShare f) ∗ dutyTok ER (kcell (peer k c, .bar)) 0 k)

theorem wp_sig (K : Dev nD × CI → ℕ) (c n : Dev nD) (k : Fin 7) (hn : n = peer k c) (l : List (Fin 7))
    {α : Type} {Q : α → sProp 𝕄} {kk : PUnit → Prog (TpuEff nD τ sig (Elt F) Λ₀ .tc) α} :
    iprop(records m K ∗ sigReady c k ∗ owesAny c (OB c (k :: l)))
      ⊢ iprop((owesAny c (OB c l) -∗ wpc c (kk ⟨⟩) Q) -∗ wpc c (.op (.semSignal (n : Thread nD τ) barS 1) kk) Q) := by
  subst hn
  unfold sigReady owesAny
  iintro ⟨#HR, ⟨Hs, Ht⟩, HO⟩ Hk
  icases HO with ⟨%W, HO⟩
  ihave #Hc := (records_at m K (peer k c, .bar)) $$ HR
  icases Hc with ⟨#HI, #Hr⟩
  iapply (Rounds.wp_signal 𝒱₀ ER (Rd m) (c : Thread nD τ) none (dst := (peer k c : Thread nD τ)) (sem := barS) (κ := K (peer k c, .bar)) (r := 0) (d := k)
    (k' := 1) (by rw [show ((peer k c : Thread nD τ), SemLoc.reg barS) = kcell (peer k c, .bar) from rfl, duties_kcell]; exact Finset.mem_univ _)
    (amount_kcell m (peer k c) .bar 0 k) () (OB c l) rfl (W := W)) $$ [Hs Ht HO] [Hk]
  · isplitl []; · iexact HI
    isplitl [HO]; · iexact HO
    isplitl [Ht]; · iexact Ht
    isplitl [Hs]
    · rw [show (Rd m).payload ((peer k c : Thread nD τ), SemLoc.reg barS) 0 k = pay m (peer k c) .bar k from payload_kcell m (peer k c) .bar 0 k]
      rw [pay_bar_peer]
      iexact Hs
    iexact Hr
  · iintro HO
    iapply Hk
    iexists W
    iexact HO

/-! ## Sends -/

/-- What the copy to peer `k` needs: a share of this device's own slot, filled; this device's slot of the peer's gather
    buffer; the tokens of the two duties; the position from which its wait starts. -/
def sendReady (c : Dev nD) (k : Fin 7) : sProp 𝕄 :=
  iprop(slotP c c (Transfers.shareTok fullShare 7 k) (GB m) ∗ (∃ f, slotP (F := F) (peer k c) c fullShare f)
    ∗ dutyTok ER (kcell (c, .snd k)) 0 (0 : D) ∗ dutyTok ER (kcell (peer k c, .rcv k)) 0 (0 : D) ∗ atPos ER (kcell (c, .snd k)) 0 ∅ 0)

theorem wp_give (K : Dev nD × CI → ℕ) (c n : Dev nD) (k : Fin 7) (hn : n = peer k c) (l : List (Fin 7))
    {hsc : (slot c : Memref sig (Dev.tc n : Thread nD τ).2.kind .vmem S2x2048 .f32).view.ref.isScScratch = false}
    {hsrc : (slot c).view.WordExact} {hdst : (slot c).view.WordExact}
    {hsem : DmaTarget.Typed .vmem (csem (.rcv k)) (.remote (p := .tc) (Dev.tc n : Thread nD τ) (slot c : Memref sig (Dev.tc n : Thread nD τ).2.kind .vmem S2x2048 .f32) (csem (.snd k)) hsc)}
    {α : Type} {Q : α → sProp 𝕄} {kk : PUnit → Prog (TpuEff nD τ sig (Elt F) Λ₀ .tc) α} :
    iprop(records m K ∗ sendReady m c k ∗ owesAny c (OR c (k :: l)))
      ⊢ iprop(((waitReady c (.snd k) ∗ owesAny c (OR c l)) -∗ wpc c (kk ⟨⟩) Q)
        -∗ wpc c (.op (.enqueueDma (slot c) (.remote (Dev.tc n : Thread nD τ) (slot c : Memref sig (Dev.tc n : Thread nD τ).2.kind .vmem S2x2048 .f32) (csem (.snd k)) hsc)
            (csem (.rcv k)) hsrc hdst hsem) kk) Q) := by
  subst hn
  unfold sendReady owesAny
  iintro ⟨#HR, ⟨Hs, Hd, Ht, Hv, Ha⟩, HO⟩ Hk
  icases HO with ⟨%W, HO⟩
  icases Hd with ⟨%fn, Hd⟩
  ihave #Hc := (records_at m K (c, .snd k)) $$ HR
  icases Hc with ⟨#HI, #Hr⟩
  ihave #Hc' := (records_at m K (peer k c, .rcv k)) $$ HR
  icases Hc' with ⟨#HI', #Hr'⟩
  iapply (Rounds.wp_send_pointsTo 𝒱₀ ER (Rd m) (c : Thread nD τ) none (c' := (peer k c : Thread nD τ)) (src := slot c) (dst := slot c)
    (sS := csem (.snd k)) (sem := csem (.rcv k)) (κ₁ := K (c, .snd k)) (κ₂ := K (peer k c, .rcv k))
    (r₁ := 0) (r₂ := 0) (d₁ := (0 : D)) (d₂ := (0 : D)) (fs := GB m) (fd := fn) (q := Transfers.shareTok fullShare 7 k)
    (by rw [duties_kcell]; exact Finset.mem_singleton_self _) (by rw [show ((peer k c : Thread nD τ), csem (.rcv k)) = kcell (peer k c, .rcv k) from rfl, duties_kcell]; exact Finset.mem_singleton_self _)
    () () NS rfl (amount_kcell m c (.snd k) 0 0) (amount_kcell m (peer k c) (.rcv k) 0 0) (OR c l) rfl (W := W)
    (by
      rw [payload_kcell]
      exact Entails.of_eq rfl)
    (by
      rw [show (Rd m).payload ((peer k c : Thread nD τ), csem (.rcv k)) 0 (0 : D) = pay m (peer k c) (.rcv k) 0 from payload_kcell m (peer k c) (.rcv k) 0 0]
      rw [pay_rcv_peer]
      exact Entails.of_eq (pointsTo_congr (slot_landed c fn (GB m))))) $$ [Hs Hd Ht Hv HO] [Hk Ha]
  · isplitl []; · iexact HI
    isplitl []; · iexact HI'
    isplitl [Hs]; · unfold slotP; iexact Hs
    isplitl [Hd]; · unfold slotP; iexact Hd
    isplitl [HO]; · iexact HO
    isplitl [Ht]; · iexact Ht
    isplitl []; · iexact Hr
    isplitl [Hv]; · iexact Hv
    iexact Hr'
  · iintro ⟨HC, HO⟩
    iapply Hk
    isplitl [HC Ha]
    · unfold waitReady
      isplitl [HC]; · iexact HC
      iexact Ha
    iexists W
    iexact HO

/-! ## Waits -/

/-- A wait for all that a cell is paid, allowed by the levels: it hands over all payloads, and the cell is left at zero. -/
theorem wp_await (K : Dev nD × CI → ℕ) (c : Dev nD) (i : CI) {w : TpuEff nD τ sig (Elt F) Λ₀ .tc PUnit} {N : ℕ}
    (hw : ∀ P : PUnit → sProp 𝕄, wpE (defs₀ (F := F)) 𝒱₀ (c : Thread nD τ) none Set.univ w P = waitSpec (c : Thread nD τ) Set.univ (csem i) N P)
    (hN : N = totalOf i) (O : CellTallies nD τ sig Unit) (hO : (levAts L lv : sProp 𝕄) ⊢ MayWait (c : Thread nD τ) (csem i) () O)
    {α : Type} {Q : α → sProp 𝕄} {kk : PUnit → Prog (TpuEff nD τ sig (Elt F) Λ₀ .tc) α} :
    iprop(records m K ∗ levAts L lv ∗ waitReady c i ∗ owesAny c O)
      ⊢ iprop(((owesAny c O ∗ semVal (kcell (c, i)) 0 ∗ bigSep (dutiesOf i) (pay m c i)) -∗ wpc c (kk ⟨⟩) Q) -∗ wpc c (.op w kk) Q) := by
  subst hN
  unfold owesAny waitReady
  iintro ⟨#HR, #Hlev, ⟨Hcred, Hat⟩, HO⟩ Hk
  icases HO with ⟨%W, HO⟩
  ihave #Hc := (records_at m K (c, i)) $$ HR
  icases Hc with ⟨#HI, #Hr⟩
  iapply (Rounds.wp_wait_rest_token 𝒱₀ ER (Rd m) (c : Thread nD τ) none (κ := K (c, i)) hw (Set.mem_univ _) () (O := O) (W := W) (R := 0) (m := 0) (T := ∅)
    (by rw [Nat.zero_add]; exact (expect_kcell m c i).symm)) $$ [Hcred Hat HO] [Hk]
  · isplitl []; · iexact HI
    isplitl [Hcred]; · iexact Hcred
    isplitl [HO]; · iexact HO
    isplitl []; · iapply hO; iexact Hlev
    iexact Hat
  · iintro ⟨HO, Hat, -, Hp⟩
    imod (Rounds.cell_close ER (Rd m) (g := kcell (c, i)) (κ := K (c, i)) (Es := Set.univ) (Set.mem_univ _) (fun h => h) (R := 0 + 1) (duties_later m _)) $$ [Hat] with Hz
    · isplitl []; · iexact HI
      iexact Hat
    iapply Hk
    isplitl [HO]; · iexists _; iexact HO
    isplitl [Hz]; · iexact Hz
    rw [← rest_kcell]
    iexact Hp

theorem wp_xwait (K : Dev nD × CI → ℕ) (c : Dev nD) (k : Fin 4) {hsrc : (xBlk c k).view.WordExact} {hdst : (xWin k).view.WordExact}
    {sem : DmaSem sig} (hs : SemLoc.dma sem = csem (.lx k))
    {α : Type} {Q : α → sProp 𝕄} {kk : PUnit → Prog (TpuEff nD τ sig (Elt F) Λ₀ .tc) α} :
    iprop(records m K ∗ levAts L lv ∗ waitReady c (.lx k) ∗ owesAny c (OB c []))
      ⊢ iprop(((owesAny c (OB c []) ∗ semVal (kcell (c, .lx k)) 0 ∗ xWinP c k (XB m c) ∗ xBlkP m c k) -∗ wpc c (kk ⟨⟩) Q)
        -∗ wpc c (.op (.waitDma2 sem (xBlk c k) (xWin k) hsrc hdst) kk) Q) := by
  have h := wp_await m K c (.lx k) (w := .waitDma2 sem (xBlk c k) (xWin k) hsrc hdst) (N := (xWin k).view.dmaCredit) (Q := Q) (kk := kk)
    (fun P => by rw [← hs]; exact wpE_waitDma2_eq 𝒱₀ (c : Thread nD τ) none Set.univ P) rfl (OB c []) (mayWait_OB c _ (by rw [dec_csem]; rfl) [])
  rw [show dutiesOf (.lx k) = {0} from rfl, bigSep_singleton] at h
  exact h

theorem wp_ywait (K : Dev nD × CI → ℕ) (c : Dev nD) (k : Fin 4) {hsrc : (yBlk c k).view.WordExact} {hdst : (yWin k).view.WordExact}
    {sem : DmaSem sig} (hs : SemLoc.dma sem = csem (.ly k))
    {α : Type} {Q : α → sProp 𝕄} {kk : PUnit → Prog (TpuEff nD τ sig (Elt F) Λ₀ .tc) α} :
    iprop(records m K ∗ levAts L lv ∗ waitReady c (.ly k) ∗ owesAny c (OB c []))
      ⊢ iprop(((owesAny c (OB c []) ∗ semVal (kcell (c, .ly k)) 0 ∗ yWinP c k (YB m c) ∗ yBlkP m c k) -∗ wpc c (kk ⟨⟩) Q)
        -∗ wpc c (.op (.waitDma2 sem (yBlk c k) (yWin k) hsrc hdst) kk) Q) := by
  have h := wp_await m K c (.ly k) (w := .waitDma2 sem (yBlk c k) (yWin k) hsrc hdst) (N := (yWin k).view.dmaCredit) (Q := Q) (kk := kk)
    (fun P => by rw [← hs]; exact wpE_waitDma2_eq 𝒱₀ (c : Thread nD τ) none Set.univ P) rfl (OB c []) (mayWait_OB c _ (by rw [dec_csem]; rfl) [])
  rw [show dutiesOf (.ly k) = {0} from rfl, bigSep_singleton] at h
  exact h

theorem wp_swait (K : Dev nD × CI → ℕ) (c : Dev nD) (k : Fin 7) {hsrc hdst : (slot c).view.WordExact}
    {sem : DmaSem sig} (hs : SemLoc.dma sem = csem (.snd k))
    {α : Type} {Q : α → sProp 𝕄} {kk : PUnit → Prog (TpuEff nD τ sig (Elt F) Λ₀ .tc) α} :
    iprop(records m K ∗ levAts L lv ∗ waitReady c (.snd k) ∗ owesAny c 0)
      ⊢ iprop(((owesAny c 0 ∗ semVal (kcell (c, .snd k)) 0 ∗ slotP c c (Transfers.shareTok fullShare 7 k) (GB m)) -∗ wpc c (kk ⟨⟩) Q)
        -∗ wpc c (.op (.waitDma2 sem (slot c) (slot c) hsrc hdst) kk) Q) := by
  have h := wp_await m K c (.snd k) (w := .waitDma2 sem (slot c) (slot c) hsrc hdst) (N := (slot c).view.dmaCredit) (Q := Q) (kk := kk)
    (fun P => by rw [← hs]; exact wpE_waitDma2_eq 𝒱₀ (c : Thread nD τ) none Set.univ P) rfl 0 (mayWait_none c _)
  rw [show dutiesOf (.snd k) = {0} from rfl, bigSep_singleton] at h
  exact h

theorem wp_rwait (K : Dev nD × CI → ℕ) (c : Dev nD) (k : Fin 7) {hsrc hdst : (slot c).view.WordExact}
    {sem : DmaSem sig} (hs : SemLoc.dma sem = csem (.rcv k))
    {α : Type} {Q : α → sProp 𝕄} {kk : PUnit → Prog (TpuEff nD τ sig (Elt F) Λ₀ .tc) α} :
    iprop(records m K ∗ levAts L lv ∗ waitReady c (.rcv k) ∗ owesAny c 0)
      ⊢ iprop(((owesAny c 0 ∗ semVal (kcell (c, .rcv k)) 0 ∗ slotP c (peer k c) fullShare (GB m)) -∗ wpc c (kk ⟨⟩) Q)
        -∗ wpc c (.op (.waitDma2 sem (slot c) (slot c) hsrc hdst) kk) Q) := by
  have h := wp_await m K c (.rcv k) (w := .waitDma2 sem (slot c) (slot c) hsrc hdst) (N := (slot c).view.dmaCredit) (Q := Q) (kk := kk)
    (fun P => by rw [← hs]; exact wpE_waitDma2_eq 𝒱₀ (c : Thread nD τ) none Set.univ P) rfl 0 (mayWait_none c _)
  rw [show dutiesOf (.rcv k) = {0} from rfl, bigSep_singleton] at h
  exact h

/-- The wait at the barrier, for all seven peers: it hands over this device's slot of every peer's gather buffer. -/
theorem wp_bwait (K : Dev nD × CI → ℕ) (c : Dev nD) (l : List (Fin 7))
    {α : Type} {Q : α → sProp 𝕄} {kk : PUnit → Prog (TpuEff nD τ sig (Elt F) Λ₀ .tc) α} :
    iprop(records m K ∗ levAts L lv ∗ waitReady c .bar ∗ owesAny c (OR c l))
      ⊢ iprop(((owesAny c (OR c l) ∗ semVal (kcell (c, .bar)) 0 ∗ bigSep Finset.univ fun k : Fin 7 => iprop(∃ f, slotP (F := F) (peer k c) c fullShare f)) -∗ wpc c (kk ⟨⟩) Q)
        -∗ wpc c (.op (.semWait barS 7) kk) Q) :=
  wp_await m K c .bar (w := .semWait barS 7) (N := 7) (Q := Q) (kk := kk)
    (fun P => wpE_semWait_eq 𝒱₀ (c : Thread nD τ) none Set.univ P) rfl (OR c l) (mayWait_bar c l)

/-! ## Loads and stores of the buffers that are cut -/

theorem wp_xload (c : Dev nD) (k : Fin 4) {hl : (Memref.whole cc0_scratch0 : Memref sig .tc .vmem S4x128x2048 .f32).view.LoadsAt (Rect.unit (s := S4x128x2048) ![k.val, 0, 0] S1x128x2048.size (win_inb k)).toLoadRect}
    {α : Type} {Q : α → sProp 𝕄} {kk : Vec F S1x128x2048 .f32 → Prog (TpuEff nD τ sig (Elt F) Λ₀ .tc) α} :
    xWinP c k (XB m c)
      ⊢ iprop((xWinP c k (XB m c) -∗ wpc c (kk (vx m c k)) Q)
        -∗ wpc c (.op (.load (Memref.whole cc0_scratch0 : Memref sig .tc .vmem S4x128x2048 .f32) (Rect.unit (s := S4x128x2048) ![k.val, 0, 0] S1x128x2048.size (win_inb k)).toLoadRect hl) kk) Q) :=
  wp_load_rect 𝒱₀ (c : Thread nD τ) none Set.univ (m := (Memref.whole cc0_scratch0 : Memref sig .tc .vmem S4x128x2048 .f32))
    (r := Rect.unit (s := S4x128x2048) ![k.val, 0, 0] S1x128x2048.size (win_inb k)) (S := (xWin k).view.set) (by rw [View.set_reshape])
theorem wp_yload (c : Dev nD) (k : Fin 4) {hl : (Memref.whole cc0_scratch1 : Memref sig .tc .vmem S4x128x2048 .f32).view.LoadsAt (Rect.unit (s := S4x128x2048) ![k.val, 0, 0] S1x128x2048.size (win_inb k)).toLoadRect}
    {α : Type} {Q : α → sProp 𝕄} {kk : Vec F S1x128x2048 .f32 → Prog (TpuEff nD τ sig (Elt F) Λ₀ .tc) α} :
    yWinP c k (YB m c)
      ⊢ iprop((yWinP c k (YB m c) -∗ wpc c (kk (vy m c k)) Q)
        -∗ wpc c (.op (.load (Memref.whole cc0_scratch1 : Memref sig .tc .vmem S4x128x2048 .f32) (Rect.unit (s := S4x128x2048) ![k.val, 0, 0] S1x128x2048.size (win_inb k)).toLoadRect hl) kk) Q) :=
  wp_load_rect 𝒱₀ (c : Thread nD τ) none Set.univ (m := (Memref.whole cc0_scratch1 : Memref sig .tc .vmem S4x128x2048 .f32))
    (r := Rect.unit (s := S4x128x2048) ![k.val, 0, 0] S1x128x2048.size (win_inb k)) (S := (yWin k).view.set) (by rw [View.set_reshape])

/-- A read, and a write, of a part of the device's own slot. -/
theorem wp_slot_load (c : Dev nD) (r : Rect S8x2x2048) (hr : (gath.access r).set ⊆ (slot c).view.set) {hl : gath.view.LoadsAt r.toLoadRect}
    {f : Buf (Elt F) ((slot c).view.loc (c : Thread nD τ))}
    {α : Type} {Q : α → sProp 𝕄} {kk : Vec F r.shape .f32 → Prog (TpuEff nD τ sig (Elt F) Λ₀ .tc) α} :
    slotP c c fullShare f
      ⊢ iprop((slotP c c fullShare f -∗ wpc c (kk (gath.view.readAt (Elt F) r.toLoadRect f)) Q) -∗ wpc c (.op (.load gath r.toLoadRect hl) kk) Q) :=
  wp_load_rect 𝒱₀ (c : Thread nD τ) none Set.univ (m := gath) (r := r) (S := (slot c).view.set) hr
theorem wp_slot_store (c : Dev nD) (r : Rect S8x2x2048) (hr : (gath.access r).set ⊆ (slot c).view.set) (w : Vec F r.shape .f32)
    {hx : (gath.access r).Stores Finset.univ} {hm : (Finset.univ : Finset r.shape.Idx) = Finset.univ ∨ ∀ a, r.stride a = 1}
    {f : Buf (Elt F) ((slot c).view.loc (c : Thread nD τ))}
    {α : Type} {Q : α → sProp 𝕄} {kk : PUnit → Prog (TpuEff nD τ sig (Elt F) Λ₀ .tc) α} :
    slotP c c fullShare f
      ⊢ iprop((slotP c c fullShare ((gath.access r).write (Elt F) f w Finset.univ) -∗ wpc c (kk ⟨⟩) Q) -∗ wpc c (.op (.store gath r w Finset.univ hx hm) kk) Q) :=
  wp_store 𝒱₀ (c : Thread nD τ) none Set.univ (m := gath) (r := r) (Mk := Finset.univ) (S := (slot c).view.set) hr

/-- A part of the kernel run first, by what is proved of it alone. -/
theorem wp_part (c : Dev nD) {β α : Type} {p : Prog (TpuEff nD τ sig (Elt F) Λ₀ .tc) β} {kk : β → Prog (TpuEff nD τ sig (Elt F) Λ₀ .tc) α}
    {P : sProp 𝕄} {R : β → sProp 𝕄} {Q : α → sProp 𝕄} (h : P ⊢ wpc c p R) :
    P ⊢ iprop((∀ a, R a -∗ wpc c (kk a) Q) -∗ wpc c (p >>= kk) Q) := by
  show P ⊢ iprop((∀ a, R a -∗ wpc c (kk a) Q) -∗ wp frame (wpE (defs₀ (F := F)) 𝒱₀ (c : Thread nD τ) none) Set.univ (p >>= kk) Q)
  rw [wp_bind]
  exact h.trans (wp_wand _ _ _)

end Cert.GradSums

end
-- ==== Proof.Copies.lean ====
/-
# The parts of the kernel that start the local copies and signal the peers
-/
module

public import proofs.«01_k».proof.Proof.Steps
public import Idealize.ShloMosaic.Lib.SparseCore.ProtocolKit

@[expose] public section

noncomputable section

namespace Cert.GradSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)
variable (o : Memref sig .tc .vmem S2x2048 .f32) (ho : o.IsWhole)

/-- A part that has ended. -/
theorem wpc_ret {α : Type} {a : α} {Q : α → sProp 𝕄} : Q a ⊢ wpc c (Prog.ret a) Q := by
  show Q a ⊢ wp frame (wpE (defs₀ (F := F)) 𝒱₀ (c : Thread nD τ) none) Set.univ (Prog.ret a) Q
  rw [wp_ret]
  iintro H
  imodintro
  iexact H

/-- The devices that the signals name, and those that the copies name, are the peers in order. -/
theorem dev1_peer : (⟨k0_dev1 c, k0_dev1_lt c⟩ : Dev nD) = peer 0 c := by revert c; decide
theorem dev2_peer : (⟨k0_dev2 c, k0_dev2_lt c⟩ : Dev nD) = peer 1 c := by revert c; decide
theorem dev3_peer : (⟨k0_dev3 c, k0_dev3_lt c⟩ : Dev nD) = peer 2 c := by revert c; decide
theorem dev4_peer : (⟨k0_dev4 c, k0_dev4_lt c⟩ : Dev nD) = peer 3 c := by revert c; decide
theorem dev5_peer : (⟨k0_dev5 c, k0_dev5_lt c⟩ : Dev nD) = peer 4 c := by revert c; decide
theorem dev6_peer : (⟨k0_dev6 c, k0_dev6_lt c⟩ : Dev nD) = peer 5 c := by revert c; decide
theorem dev7_peer : (⟨k0_dev7 c, k0_dev7_lt c⟩ : Dev nD) = peer 6 c := by revert c; decide
theorem dev8_peer : (⟨k0_dev8 c, k0_dev8_lt c⟩ : Dev nD) = peer 0 c := by revert c; decide
theorem dev9_peer : (⟨k0_dev9 c, k0_dev9_lt c⟩ : Dev nD) = peer 1 c := by revert c; decide
theorem dev10_peer : (⟨k0_dev10 c, k0_dev10_lt c⟩ : Dev nD) = peer 2 c := by revert c; decide
theorem dev11_peer : (⟨k0_dev11 c, k0_dev11_lt c⟩ : Dev nD) = peer 3 c := by revert c; decide
theorem dev12_peer : (⟨k0_dev12 c, k0_dev12_lt c⟩ : Dev nD) = peer 4 c := by revert c; decide
theorem dev13_peer : (⟨k0_dev13 c, k0_dev13_lt c⟩ : Dev nD) = peer 5 c := by revert c; decide
theorem dev14_peer : (⟨k0_dev14 c, k0_dev14_lt c⟩ : Dev nD) = peer 6 c := by revert c; decide

/-- The barrier semaphore as the kernel fetches it. -/
abbrev barA : Sems sig S_ := SemArray.scalar (sig.barrier 0 rfl)

/-- The copies of the first blocks are started. -/
theorem part1 :
    iprop(records m K ∗ xReady m c 0 ∗ yReady m c 0)
      ⊢ wpc c (k0_part1 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5)
        fun v => iprop(⌜v.1 = c⌝ ∗ waitReady (F := F) c (.lx 0) ∗ waitReady (F := F) c (.ly 0)) := by
  rw [k0_part1_eq_skeleton]
  unfold k0_part1_skel
  simp only [semSignalWord, semWaitWord, Prog.lift, Prog.bind_op, Prog.bind_ret, Prog.pure_eq_ret, wp_deviceId]
  iintro ⟨#HR, Hx, Hy⟩
  iapply (wp_xcopy m K c 0) $$ [Hx]
  · iclose
  iintro Cx
  iapply (wp_ycopy m K c 0) $$ [Hy]
  · iclose
  iintro Cy
  iapply (wpc_ret c)
  isplitr; · ipureintro; rfl
  iclose

/-- The copies of the next blocks are started. -/
theorem part2 (v15 : BitVec 32) :
    iprop(records m K ∗ xReady m c 1 ∗ yReady m c 1 ∗ xReady m c 2 ∗ yReady m c 2 ∗ xReady m c 3)
      ⊢ wpc c (k0_part2 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c v15)
        fun _ => iprop(waitReady (F := F) c (.lx 1) ∗ waitReady (F := F) c (.ly 1) ∗ waitReady (F := F) c (.lx 2) ∗ waitReady (F := F) c (.ly 2) ∗ waitReady (F := F) c (.lx 3)) := by
  rw [k0_part2_eq_skeleton]
  unfold k0_part2_skel
  simp only [semSignalWord, semWaitWord, Prog.lift, Prog.bind_op, Prog.bind_ret, Prog.pure_eq_ret, wp_deviceId]
  iintro ⟨#HR, Hx1, Hy1, Hx2, Hy2, Hx3⟩
  iapply (wp_xcopy m K c 1) $$ [Hx1]
  · iclose
  iintro Cx1
  iapply (wp_ycopy m K c 1) $$ [Hy1]
  · iclose
  iintro Cy1
  iapply (wp_xcopy m K c 2) $$ [Hx2]
  · iclose
  iintro Cx2
  iapply (wp_ycopy m K c 2) $$ [Hy2]
  · iclose
  iintro Cy2
  iapply (wp_xcopy m K c 3) $$ [Hx3]
  · iclose
  iintro Cx3
  iapply (wpc_ret c)
  iclose

/-- The last copy is started, two peers are signalled. -/
theorem part3 (v2 v5 v8 : BitVec 32) :
    iprop(records m K ∗ yReady m c 3 ∗ sigReady (F := F) c 0 ∗ sigReady (F := F) c 1 ∗ owesAny c (OB c [0, 1, 2, 3, 4, 5, 6]))
      ⊢ wpc c (k0_part3 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c v2 v5 v8)
        fun v => iprop(⌜v.1 = barA⌝ ∗ waitReady (F := F) c (.ly 3) ∗ owesAny c (OB c [2, 3, 4, 5, 6])) := by
  rw [k0_part3_eq_skeleton]
  unfold k0_part3_skel
  simp only [semSignalWord, semWaitWord, Prog.lift, Prog.bind_op, Prog.bind_ret, Prog.pure_eq_ret, wp_deviceId]
  iintro ⟨#HR, Hy3, S0, S1, HO⟩
  iapply (wp_ycopy m K c 3) $$ [Hy3]
  · iclose
  iintro Cy3
  iapply (wp_sig m K c _ 0 (dev1_peer c) [1, 2, 3, 4, 5, 6]) $$ [S0 HO]
  · iclose
  iintro HO
  iapply (wp_sig m K c _ 1 (dev2_peer c) [2, 3, 4, 5, 6]) $$ [S1 HO]
  · iclose
  iintro HO
  iapply (wpc_ret c)
  isplitr; · ipureintro; rfl
  iclose

/-- Four more peers are signalled. -/
theorem part4 (v2 v5 v8 v84 v85 v87 v88 : BitVec 32) :
    iprop(records m K ∗ sigReady (F := F) c 2 ∗ sigReady (F := F) c 3 ∗ sigReady (F := F) c 4 ∗ sigReady (F := F) c 5 ∗ owesAny c (OB c [2, 3, 4, 5, 6]))
      ⊢ wpc c (k0_part4 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c v2 v5 v8 barA v84 v85 v87 v88)
        fun _ => iprop(owesAny c (OB c [6])) := by
  rw [k0_part4_eq_skeleton]
  unfold k0_part4_skel
  simp only [semSignalWord, semWaitWord, Prog.lift, Prog.bind_op, Prog.bind_ret, Prog.pure_eq_ret, wp_deviceId]
  iintro ⟨#HR, S2, S3, S4, S5, HO⟩
  iapply (wp_sig m K c _ 2 (dev3_peer c) [3, 4, 5, 6]) $$ [S2 HO]
  · iclose
  iintro HO
  iapply (wp_sig m K c _ 3 (dev4_peer c) [4, 5, 6]) $$ [S3 HO]
  · iclose
  iintro HO
  iapply (wp_sig m K c _ 4 (dev5_peer c) [5, 6]) $$ [S4 HO]
  · iclose
  iintro HO
  iapply (wp_sig m K c _ 5 (dev6_peer c) [6]) $$ [S5 HO]
  · iclose
  iintro HO
  iapply (wpc_ret c)
  iclose

end Cert.GradSums

end
-- ==== Proof.Sums.lean ====
/-
# The parts of the kernel that sum the blocks
-/
module

public import proofs.«01_k».proof.Proof.Copies

@[expose] public section

noncomputable section

namespace Cert.GradSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)
variable (o : Memref sig .tc .vmem S2x2048 .f32) (ho : o.IsWhole)

/-- What is held of block `k` once its copy has been waited for: the filled window, the block back, its cell at zero. -/
def xDone (k : Fin 4) : sProp 𝕄 := iprop(semVal (kcell (c, .lx k)) 0 ∗ xWinP c k (XB m c) ∗ xBlkP m c k)
def yDone (k : Fin 4) : sProp 𝕄 := iprop(semVal (kcell (c, .ly k)) 0 ∗ yWinP c k (YB m c) ∗ yBlkP m c k)

/-- After the two stores the device's slot is filled. -/
theorem slot_filled (f : Buf (Elt F) ((slot c).view.loc (c : Thread nD τ))) :
    slotP c c fullShare ((gath.access (rowRect1 c)).write (Elt F) ((gath.access (rowRect0 c)).write (Elt F) f (row0 m c) Finset.univ) (row1 m c) Finset.univ)
      ⊢ (slotP c c fullShare (GB m) : sProp 𝕄) := by
  unfold slotP
  exact Entails.of_eq (pointsTo_congr (slot_stored m c f))

/-- The last peer is signalled, the first block of `x` waited for and loaded. -/
theorem part5 (v2 v5 v8 : BitVec 32) :
    iprop(records m K ∗ levAts L lv ∗ sigReady (F := F) c 6 ∗ waitReady c (.lx 0) ∗ owesAny c (OB c [6]))
      ⊢ wpc c (k0_part5 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c v2 v5 v8 barA)
        fun v => iprop(⌜v.2.2.2 = k0_pay2 (vx m c 0)⌝ ∗ xDone m c 0 ∗ owesAny c (OB c [])) := by
  rw [k0_part5_eq_skeleton]
  unfold k0_part5_skel
  simp only [semSignalWord, semWaitWord, Prog.lift, Prog.bind_op, Prog.bind_ret, Prog.pure_eq_ret, wp_deviceId]
  iintro ⟨#HR, #Hlev, S6, Wx0, HO⟩
  iapply (wp_sig m K c _ 6 (dev7_peer c) []) $$ [S6 HO]
  · iclose
  iintro HO
  iapply (wp_xwait m K c 0 rfl) $$ [Wx0 HO]
  · iclose
  iintro ⟨HO, Zx0, Vx0, Bx0⟩
  iapply (wp_xload m c 0) $$ Vx0
  iintro Vx0
  iapply (wpc_ret c)
  isplitr; · ipureintro; rfl
  unfold xDone
  iclose

/-- The first block is summed. -/
theorem part6 :
    iprop(records m K ∗ levAts L lv ∗ waitReady c (.ly 0) ∗ waitReady c (.lx 1) ∗ owesAny c (OB c []))
      ⊢ wpc c (k0_part6 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c (k0_pay2 (vx m c 0)))
        fun v => iprop(⌜v.1 = accG1 m c ∧ v.2.1 = accB1 m c ∧ v.2.2 = k0_pay6 (vx m c 1)⌝ ∗ yDone m c 0 ∗ xDone m c 1 ∗ owesAny c (OB c [])) := by
  rw [k0_part6_eq_skeleton]
  unfold k0_part6_skel
  simp only [semSignalWord, semWaitWord, Prog.lift, Prog.bind_op, Prog.bind_ret, Prog.pure_eq_ret, wp_deviceId]
  iintro ⟨#HR, #Hlev, Wy0, Wx1, HO⟩
  iapply (wp_ywait m K c 0 rfl) $$ [Wy0 HO]
  · iclose
  iintro ⟨HO, Zy0, Vy0, By0⟩
  iapply (wp_yload m c 0) $$ Vy0
  iintro Vy0
  iapply (wp_xwait m K c 1 rfl) $$ [Wx1 HO]
  · iclose
  iintro ⟨HO, Zx1, Vx1, Bx1⟩
  iapply (wp_xload m c 1) $$ Vx1
  iintro Vx1
  iapply (wpc_ret c)
  isplitr; · ipureintro; exact ⟨rfl, rfl, rfl⟩
  unfold xDone yDone
  iclose

/-- The second block is added. -/
theorem part7 :
    iprop(records m K ∗ levAts L lv ∗ waitReady c (.ly 1) ∗ waitReady c (.lx 2) ∗ owesAny c (OB c []))
      ⊢ wpc c (k0_part7 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c (accG1 m c) (accB1 m c) (k0_pay6 (vx m c 1)))
        fun v => iprop(⌜v.1 = accG2 m c ∧ v.2.1 = accB2 m c ∧ v.2.2 = k0_pay10 (vx m c 2)⌝ ∗ yDone m c 1 ∗ xDone m c 2 ∗ owesAny c (OB c [])) := by
  rw [k0_part7_eq_skeleton]
  unfold k0_part7_skel
  simp only [semSignalWord, semWaitWord, Prog.lift, Prog.bind_op, Prog.bind_ret, Prog.pure_eq_ret, wp_deviceId]
  iintro ⟨#HR, #Hlev, Wy1, Wx2, HO⟩
  iapply (wp_ywait m K c 1 rfl) $$ [Wy1 HO]
  · iclose
  iintro ⟨HO, Zy1, Vy1, By1⟩
  iapply (wp_yload m c 1) $$ Vy1
  iintro Vy1
  iapply (wp_xwait m K c 2 rfl) $$ [Wx2 HO]
  · iclose
  iintro ⟨HO, Zx2, Vx2, Bx2⟩
  iapply (wp_xload m c 2) $$ Vx2
  iintro Vx2
  iapply (wpc_ret c)
  isplitr; · ipureintro; exact ⟨rfl, rfl, rfl⟩
  unfold xDone yDone
  iclose

/-- The third block is added. -/
theorem part8 :
    iprop(records m K ∗ levAts L lv ∗ waitReady c (.ly 2) ∗ waitReady c (.lx 3) ∗ owesAny c (OB c []))
      ⊢ wpc c (k0_part8 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c (accG2 m c) (accB2 m c) (k0_pay10 (vx m c 2)))
        fun v => iprop(⌜v.1 = accG3 m c ∧ v.2.1 = accB3 m c ∧ v.2.2.1 = k0_pay16 (vx m c 3) ∧ v.2.2.2 = k0_pay17 (vx m c 3)⌝ ∗ yDone m c 2 ∗ xDone m c 3 ∗ owesAny c (OB c [])) := by
  rw [k0_part8_eq_skeleton]
  unfold k0_part8_skel
  simp only [semSignalWord, semWaitWord, Prog.lift, Prog.bind_op, Prog.bind_ret, Prog.pure_eq_ret, wp_deviceId]
  iintro ⟨#HR, #Hlev, Wy2, Wx3, HO⟩
  iapply (wp_ywait m K c 2 rfl) $$ [Wy2 HO]
  · iclose
  iintro ⟨HO, Zy2, Vy2, By2⟩
  iapply (wp_yload m c 2) $$ Vy2
  iintro Vy2
  iapply (wp_xwait m K c 3 rfl) $$ [Wx3 HO]
  · iclose
  iintro ⟨HO, Zx3, Vx3, Bx3⟩
  iapply (wp_xload m c 3) $$ Vx3
  iintro Vx3
  iapply (wpc_ret c)
  isplitr; · ipureintro; exact ⟨rfl, rfl, rfl, rfl⟩
  unfold xDone yDone
  iclose

/-- The last block is added, the two rows of sums are stored, and all peers are waited for. -/
theorem part9 (v12 v65 v66 v67 : BitVec 32) :
    iprop(records m K ∗ levAts L lv ∗ waitReady c (.ly 3) ∗ (∃ f, slotP (F := F) c c fullShare f) ∗ waitReady c .bar ∗ owesAny c (OB c []))
      ⊢ wpc c (k0_part9 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c v12 barA v65 v66 v67 (accG3 m c) (accB3 m c) (k0_pay16 (vx m c 3)) (k0_pay17 (vx m c 3)))
        fun _ => iprop(yDone m c 3 ∗ slotP c c fullShare (GB m) ∗ semVal (kcell (c, .bar)) 0 ∗ (bigSep Finset.univ fun k : Fin 7 => iprop(∃ f, slotP (F := F) (peer k c) c fullShare f))
          ∗ owesAny c (OR c [0, 1, 2, 3, 4, 5, 6])) := by
  rw [k0_part9_eq_skeleton]
  unfold k0_part9_skel
  simp only [semSignalWord, semWaitWord, Prog.lift, Prog.bind_op, Prog.bind_ret, Prog.pure_eq_ret, wp_deviceId]
  iintro ⟨#HR, #Hlev, Wy3, Hs, Wb, HO⟩
  iapply (wp_ywait m K c 3 rfl) $$ [Wy3 HO]
  · iclose
  iintro ⟨HO, Zy3, Vy3, By3⟩
  iapply (wp_yload m c 3) $$ Vy3
  iintro Vy3
  icases Hs with ⟨%f, Hs⟩
  iapply (wp_slot_load c (rowRect0 c) (row0_sub c)) $$ Hs; iintro Hs
  iapply (wp_slot_store c (rowRect0 c) (row0_sub c) (row0 m c)) $$ Hs; iintro Hs
  iapply (wp_slot_load c (rowRect1 c) (row1_sub c)) $$ Hs; iintro Hs
  iapply (wp_slot_store c (rowRect1 c) (row1_sub c) (row1 m c)) $$ Hs; iintro Hs
  iapply (wp_bwait m K c [0, 1, 2, 3, 4, 5, 6]) $$ [Wb HO]
  · isplitr; · iexact HR
    isplitr; · iexact Hlev
    isplitl [Wb]; · iexact Wb
    iexact HO
  iintro ⟨HO, Zb, Hp⟩
  iapply (wpc_ret c)
  unfold yDone
  isplitl [Zy3 Vy3 By3]; · iclose
  isplitl [Hs]
  · iapply (slot_filled m c f)
    iexact Hs
  isplitl [Zb]; · iexact Zb
  isplitl [Hp]; · iexact Hp
  iexact HO

end Cert.GradSums

end
-- ==== Proof.Sends.lean ====
/-
# The parts of the kernel that send the sums and wait for the sums of the others
-/
module

public import proofs.«01_k».proof.Proof.Copies

@[expose] public section

noncomputable section

namespace Cert.GradSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)
variable (o : Memref sig .tc .vmem S2x2048 .f32) (ho : o.IsWhole)

/-- What is held once the copy to peer `k`, and once peer `k`'s copy, has been waited for. -/
def sDone (k : Fin 7) : sProp 𝕄 := iprop(semVal (kcell (c, .snd k)) 0 ∗ slotP c c (Transfers.shareTok fullShare 7 k) (GB m))
def rDone (k : Fin 7) : sProp 𝕄 := iprop(semVal (kcell (c, .rcv k)) 0 ∗ slotP c (peer k c) fullShare (GB m))

/-- The copies to three peers are started. -/
theorem part10 (v74 v75 v76 v83 v84 v85 v92 : BitVec 32) :
    iprop(records m K ∗ sendReady m c 0 ∗ sendReady m c 1 ∗ sendReady m c 2 ∗ owesAny c (OR c [0, 1, 2, 3, 4, 5, 6]))
      ⊢ wpc c (k0_part10 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c v74 v75 v76 v83 v84 v85 v92)
        fun _ => iprop(waitReady (F := F) c (.snd 0) ∗ waitReady (F := F) c (.snd 1) ∗ waitReady (F := F) c (.snd 2) ∗ owesAny c (OR c [3, 4, 5, 6])) := by
  rw [k0_part10_eq_skeleton]
  unfold k0_part10_skel
  simp only [semSignalWord, semWaitWord, Prog.lift, Prog.bind_op, Prog.bind_ret, Prog.pure_eq_ret, wp_deviceId]
  iintro ⟨#HR, S0, S1, S2, HO⟩
  iapply (wp_give m K c _ 0 (dev8_peer c) [1, 2, 3, 4, 5, 6]) $$ [S0 HO]
  · iclose
  iintro ⟨C0, HO⟩
  iapply (wp_give m K c _ 1 (dev9_peer c) [2, 3, 4, 5, 6]) $$ [S1 HO]
  · iclose
  iintro ⟨C1, HO⟩
  iapply (wp_give m K c _ 2 (dev10_peer c) [3, 4, 5, 6]) $$ [S2 HO]
  · iclose
  iintro ⟨C2, HO⟩
  iapply (wpc_ret c)
  iclose

/-- The copies to two more are started. -/
theorem part11 (v93 v94 v101 v102 v103 v110 v111 v112 v324 : BitVec 32) :
    iprop(records m K ∗ sendReady m c 3 ∗ sendReady m c 4 ∗ owesAny c (OR c [3, 4, 5, 6]))
      ⊢ wpc c (k0_part11 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c v93 v94 v101 v102 v103 v110 v111 v112 v324)
        fun _ => iprop(waitReady (F := F) c (.snd 3) ∗ waitReady (F := F) c (.snd 4) ∗ owesAny c (OR c [5, 6])) := by
  rw [k0_part11_eq_skeleton]
  unfold k0_part11_skel
  simp only [semSignalWord, semWaitWord, Prog.lift, Prog.bind_op, Prog.bind_ret, Prog.pure_eq_ret, wp_deviceId]
  iintro ⟨#HR, S3, S4, HO⟩
  iapply (wp_give m K c _ 3 (dev11_peer c) [4, 5, 6]) $$ [S3 HO]
  · iclose
  iintro ⟨C3, HO⟩
  iapply (wp_give m K c _ 4 (dev12_peer c) [5, 6]) $$ [S4 HO]
  · iclose
  iintro ⟨C4, HO⟩
  iapply (wpc_ret c)
  iclose

/-- The last copies are started, the first is waited for. -/
theorem part12 (v65 v66 v119 v120 v121 : BitVec 32) :
    iprop(records m K ∗ levAts L lv ∗ sendReady m c 5 ∗ sendReady m c 6 ∗ waitReady c (.snd 0) ∗ owesAny c (OR c [5, 6]))
      ⊢ wpc c (k0_part12 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c v65 v66 v119 v120 v121)
        fun _ => iprop(waitReady (F := F) c (.snd 5) ∗ waitReady (F := F) c (.snd 6) ∗ sDone m c 0 ∗ owesAny c 0) := by
  rw [k0_part12_eq_skeleton]
  unfold k0_part12_skel
  simp only [semSignalWord, semWaitWord, Prog.lift, Prog.bind_op, Prog.bind_ret, Prog.pure_eq_ret, wp_deviceId]
  iintro ⟨#HR, #Hlev, S5, S6, Ws0, HO⟩
  iapply (wp_give m K c _ 5 (dev13_peer c) [6]) $$ [S5 HO]
  · iclose
  iintro ⟨C5, HO⟩
  iapply (wp_give m K c _ 6 (dev14_peer c) []) $$ [S6 HO]
  · iclose
  iintro ⟨C6, HO⟩
  iapply (wp_swait m K c 0 rfl) $$ [Ws0 HO]
  · iclose
  iintro ⟨HO, Zs0, Hs0⟩
  iapply (wpc_ret c)
  unfold sDone
  iclose

/-- Waits for copies and receptions. -/
theorem part13 (v67 v74 v75 v76 v389 v390 : BitVec 32) :
    iprop(records m K ∗ levAts L lv ∗ waitReady c (.rcv 0) ∗ waitReady c (.snd 1) ∗ waitReady c (.rcv 1) ∗ owesAny c 0)
      ⊢ wpc c (k0_part13 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c v67 v74 v75 v76 v389 v390)
        fun _ => iprop(rDone m c 0 ∗ sDone m c 1 ∗ rDone m c 1 ∗ owesAny c 0) := by
  rw [k0_part13_eq_skeleton]
  unfold k0_part13_skel
  simp only [semSignalWord, semWaitWord, Prog.lift, Prog.bind_op, Prog.bind_ret, Prog.pure_eq_ret, wp_deviceId]
  iintro ⟨#HR, #Hlev, Wr0, Ws1, Wr1, HO⟩
  iapply (wp_rwait m K c 0 rfl) $$ [Wr0 HO]
  · iclose
  iintro ⟨HO, Zr0, Hr0⟩
  iapply (wp_swait m K c 1 rfl) $$ [Ws1 HO]
  · iclose
  iintro ⟨HO, Zs1, Hs1⟩
  iapply (wp_rwait m K c 1 rfl) $$ [Wr1 HO]
  · iclose
  iintro ⟨HO, Zr1, Hr1⟩
  iapply (wpc_ret c)
  unfold sDone rDone
  iclose

/-- Waits for copies and receptions. -/
theorem part14 (v83 v84 v85 v92 v93 v94 : BitVec 32) :
    iprop(records m K ∗ levAts L lv ∗ waitReady c (.snd 2) ∗ waitReady c (.rcv 2) ∗ waitReady c (.snd 3) ∗ owesAny c 0)
      ⊢ wpc c (k0_part14 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c v83 v84 v85 v92 v93 v94)
        fun _ => iprop(sDone m c 2 ∗ rDone m c 2 ∗ sDone m c 3 ∗ owesAny c 0) := by
  rw [k0_part14_eq_skeleton]
  unfold k0_part14_skel
  simp only [semSignalWord, semWaitWord, Prog.lift, Prog.bind_op, Prog.bind_ret, Prog.pure_eq_ret, wp_deviceId]
  iintro ⟨#HR, #Hlev, Ws2, Wr2, Ws3, HO⟩
  iapply (wp_swait m K c 2 rfl) $$ [Ws2 HO]
  · iclose
  iintro ⟨HO, Zs2, Hs2⟩
  iapply (wp_rwait m K c 2 rfl) $$ [Wr2 HO]
  · iclose
  iintro ⟨HO, Zr2, Hr2⟩
  iapply (wp_swait m K c 3 rfl) $$ [Ws3 HO]
  · iclose
  iintro ⟨HO, Zs3, Hs3⟩
  iapply (wpc_ret c)
  unfold sDone rDone
  iclose

/-- Waits for copies and receptions. -/
theorem part15 (v101 v102 v103 v110 : BitVec 32) :
    iprop(records m K ∗ levAts L lv ∗ waitReady c (.rcv 3) ∗ waitReady c (.snd 4) ∗ waitReady c (.rcv 4) ∗ waitReady c (.snd 5) ∗ owesAny c 0)
      ⊢ wpc c (k0_part15 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c v101 v102 v103 v110)
        fun _ => iprop(rDone m c 3 ∗ sDone m c 4 ∗ rDone m c 4 ∗ sDone m c 5 ∗ owesAny c 0) := by
  rw [k0_part15_eq_skeleton]
  unfold k0_part15_skel
  simp only [semSignalWord, semWaitWord, Prog.lift, Prog.bind_op, Prog.bind_ret, Prog.pure_eq_ret, wp_deviceId]
  iintro ⟨#HR, #Hlev, Wr3, Ws4, Wr4, Ws5, HO⟩
  iapply (wp_rwait m K c 3 rfl) $$ [Wr3 HO]
  · iclose
  iintro ⟨HO, Zr3, Hr3⟩
  iapply (wp_swait m K c 4 rfl) $$ [Ws4 HO]
  · iclose
  iintro ⟨HO, Zs4, Hs4⟩
  iapply (wp_rwait m K c 4 rfl) $$ [Wr4 HO]
  · iclose
  iintro ⟨HO, Zr4, Hr4⟩
  iapply (wp_swait m K c 5 rfl) $$ [Ws5 HO]
  · iclose
  iintro ⟨HO, Zs5, Hs5⟩
  iapply (wpc_ret c)
  unfold sDone rDone
  iclose

end Cert.GradSums

end
-- ==== Proof.Pieces.lean ====
/-
# Cutting the buffers into the pieces the protocol passes about, and putting them together
-/
module

public import proofs.«01_k».proof.Proof.Protocol

@[expose] public section

noncomputable section

namespace Cert.GradSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The scratch for `x` and for `dy` -/

theorem xWin_disj : ∀ k ∈ (Finset.univ : Finset (Fin 4)), ∀ k' ∈ (Finset.univ : Finset (Fin 4)), k ≠ k' → Disjoint (xWin k).view.set (xWin k').view.set :=
  fun k _ k' _ h => Finset.disjoint_left.mpr fun i hi hi' => h ((mem_xWin.mp hi).symm.trans (mem_xWin.mp hi'))
theorem yWin_disj : ∀ k ∈ (Finset.univ : Finset (Fin 4)), ∀ k' ∈ (Finset.univ : Finset (Fin 4)), k ≠ k' → Disjoint (yWin k).view.set (yWin k').view.set :=
  fun k _ k' _ h => Finset.disjoint_left.mpr fun i hi hi' => h ((mem_yWin.mp hi).symm.trans (mem_yWin.mp hi'))
theorem xWin_cover : (Finset.univ : Finset S4x128x2048.Idx) = Finset.univ.biUnion fun k : Fin 4 => (xWin k).view.set := by
  ext i; exact ⟨fun _ => Finset.mem_biUnion.mpr ⟨i 0, Finset.mem_univ _, mem_xWin.mpr rfl⟩, fun _ => Finset.mem_univ _⟩
theorem yWin_cover : (Finset.univ : Finset S4x128x2048.Idx) = Finset.univ.biUnion fun k : Fin 4 => (yWin k).view.set := by
  ext i; exact ⟨fun _ => Finset.mem_biUnion.mpr ⟨i 0, Finset.mem_univ _, mem_yWin.mpr rfl⟩, fun _ => Finset.mem_univ _⟩

/-- A scratch is its four windows. -/
theorem xScr_eq (f : Buf (Elt F) ((c : Thread nD τ).loc cc0_scratch0)) :
    (((c : Thread nD τ).loc cc0_scratch0) ↦{fullShare} f : sProp 𝕄) = bigSep Finset.univ fun k : Fin 4 => xWinP c k f := by
  refine Eq.trans ?_ (pointsTo_biUnion (ℓ := (c : Thread nD τ).loc cc0_scratch0) (q := fullShare) (f := f) Finset.univ (fun k : Fin 4 => (xWin k).view.set) xWin_disj)
  exact congrArg (fun S => (((c : Thread nD τ).loc cc0_scratch0) ↦[S]{fullShare} f : sProp 𝕄)) xWin_cover
theorem yScr_eq (f : Buf (Elt F) ((c : Thread nD τ).loc cc0_scratch1)) :
    (((c : Thread nD τ).loc cc0_scratch1) ↦{fullShare} f : sProp 𝕄) = bigSep Finset.univ fun k : Fin 4 => yWinP c k f := by
  refine Eq.trans ?_ (pointsTo_biUnion (ℓ := (c : Thread nD τ).loc cc0_scratch1) (q := fullShare) (f := f) Finset.univ (fun k : Fin 4 => (yWin k).view.set) yWin_disj)
  exact congrArg (fun S => (((c : Thread nD τ).loc cc0_scratch1) ↦[S]{fullShare} f : sProp 𝕄)) yWin_cover

/-! ## The arrays `x` and `dy` -/

theorem xBlk_disj : ∀ k ∈ (Finset.univ : Finset (Fin 4)), ∀ k' ∈ (Finset.univ : Finset (Fin 4)), k ≠ k' → Disjoint (xBlk c k).view.set (xBlk c k').view.set :=
  fun k _ k' _ h => Finset.disjoint_left.mpr fun i hi hi' => by
    have h1 := mem_xBlk.mp hi
    have h2 := mem_xBlk.mp hi'
    exact h (Fin.ext (by omega))
theorem yBlk_disj : ∀ k ∈ (Finset.univ : Finset (Fin 4)), ∀ k' ∈ (Finset.univ : Finset (Fin 4)), k ≠ k' → Disjoint (yBlk c k).view.set (yBlk c k').view.set :=
  fun k _ k' _ h => Finset.disjoint_left.mpr fun i hi hi' => by
    have h1 := mem_yBlk.mp hi
    have h2 := mem_yBlk.mp hi'
    exact h (Fin.ext (by omega))

/-- The elements of the array outside the device's blocks. -/
def xRest : Finset S2048x2048.Idx := Finset.univ \ Finset.univ.biUnion fun k : Fin 4 => (xBlk c k).view.set
def yRest : Finset S2048x2048.Idx := Finset.univ \ Finset.univ.biUnion fun k : Fin 4 => (yBlk c k).view.set
def xRestP : sProp 𝕄 := ((c : Thread nD τ).loc main_arg0) ↦[xRest c]{fullShare} m ((c : Thread nD τ).loc main_arg0)
def yRestP : sProp 𝕄 := ((c : Thread nD τ).loc main_arg1) ↦[yRest c]{fullShare} m ((c : Thread nD τ).loc main_arg1)

/-- An array is the device's four blocks and the rest. -/
theorem xArr_eq : (((c : Thread nD τ).loc main_arg0) ↦{fullShare} m ((c : Thread nD τ).loc main_arg0) : sProp 𝕄)
    ⊣⊢ iprop((bigSep Finset.univ fun k : Fin 4 => xBlkP m c k) ∗ xRestP m c) := by
  have h := pointsTo_split_subset (Ix := Unit) (Name := ℕ) (U := UU) (Lvl := ℕ) (Val := Elt F) (ℓ := (c : Thread nD τ).loc main_arg0) (q := fullShare)
    (f := m ((c : Thread nD τ).loc main_arg0)) (I := Finset.univ.biUnion fun k : Fin 4 => (xBlk c k).view.set) (S := Finset.univ) (Finset.subset_univ _)
  rw [pointsTo_biUnion (ℓ := (c : Thread nD τ).loc main_arg0) (q := fullShare) (f := m ((c : Thread nD τ).loc main_arg0)) Finset.univ (fun k : Fin 4 => (xBlk c k).view.set) (xBlk_disj c)] at h
  exact h
theorem yArr_eq : (((c : Thread nD τ).loc main_arg1) ↦{fullShare} m ((c : Thread nD τ).loc main_arg1) : sProp 𝕄)
    ⊣⊢ iprop((bigSep Finset.univ fun k : Fin 4 => yBlkP m c k) ∗ yRestP m c) := by
  have h := pointsTo_split_subset (Ix := Unit) (Name := ℕ) (U := UU) (Lvl := ℕ) (Val := Elt F) (ℓ := (c : Thread nD τ).loc main_arg1) (q := fullShare)
    (f := m ((c : Thread nD τ).loc main_arg1)) (I := Finset.univ.biUnion fun k : Fin 4 => (yBlk c k).view.set) (S := Finset.univ) (Finset.subset_univ _)
  rw [pointsTo_biUnion (ℓ := (c : Thread nD τ).loc main_arg1) (q := fullShare) (f := m ((c : Thread nD τ).loc main_arg1)) Finset.univ (fun k : Fin 4 => (yBlk c k).view.set) (yBlk_disj c)] at h
  exact h

/-! ## The gather buffer -/

theorem slot_disj : ∀ p ∈ (Finset.univ : Finset (Dev nD)), ∀ p' ∈ (Finset.univ : Finset (Dev nD)), p ≠ p' → Disjoint (slot p).view.set (slot p').view.set :=
  fun p _ p' _ h => Finset.disjoint_left.mpr fun i hi hi' => h (Fin.ext ((mem_slot.mp hi).symm.trans (mem_slot.mp hi')))
theorem slot_cover : (Finset.univ : Finset S8x2x2048.Idx) = Finset.univ.biUnion fun p : Dev nD => (slot p).view.set := by
  ext i; exact ⟨fun _ => Finset.mem_biUnion.mpr ⟨i 0, Finset.mem_univ _, mem_slot.mpr rfl⟩, fun _ => Finset.mem_univ _⟩

/-- The devices are this one and its seven peers. -/
theorem devs_eq : (Finset.univ : Finset (Dev nD)) = insert c (Finset.univ.map ⟨fun k : Fin 7 => peer k c, fun _ _ h => peer_inj h⟩) := by
  revert c; decide
theorem self_not_mem : c ∉ Finset.univ.map ⟨fun k : Fin 7 => peer k c, fun _ _ h => peer_inj h⟩ := by
  revert c; decide

/-- The gather buffer is the device's own slot and its peers' seven. -/
theorem gath_eq (f : Buf (Elt F) ((c : Thread nD τ).loc cc0_scratch2)) :
    (((c : Thread nD τ).loc cc0_scratch2) ↦{fullShare} f : sProp 𝕄)
      = iprop(slotP c c fullShare f ∗ bigSep Finset.univ fun k : Fin 7 => slotP c (peer k c) fullShare f) := by
  have h1 : (((c : Thread nD τ).loc cc0_scratch2) ↦{fullShare} f : sProp 𝕄) = bigSep Finset.univ fun p : Dev nD => slotP c p fullShare f := by
    refine Eq.trans ?_ (pointsTo_biUnion (ℓ := (c : Thread nD τ).loc cc0_scratch2) (q := fullShare) (f := f) Finset.univ (fun p : Dev nD => (slot p).view.set) slot_disj)
    exact congrArg (fun S => (((c : Thread nD τ).loc cc0_scratch2) ↦[S]{fullShare} f : sProp 𝕄)) slot_cover
  rw [h1, devs_eq c, bigSep_insert (self_not_mem c), bigSep_map]
  rfl

/-- The device's own slot is seven shares, one for each peer, and a remainder. -/
theorem own_split (f : Buf (Elt F) ((slot c).view.loc (c : Thread nD τ))) :
    slotP c c fullShare f ⊣⊢ (iprop(slotP c c (Transfers.shareDrop fullShare 7) f ∗ bigSep Finset.univ fun k : Fin 7 => slotP c c (Transfers.shareTok fullShare 7 k) f) : sProp 𝕄) :=
  Transfers.pointsTo_toks fullShare 7

end Cert.GradSums

end
-- ==== Proof.Body.lean ====
/-
# The kernel's body on one device

The last waits, the load of the gather buffer, and then the parts one after another: from what a device holds at launch to
what it holds at the end.
-/
module

public import proofs.«01_k».proof.Proof.Sums
public import proofs.«01_k».proof.Proof.Sends
public import proofs.«01_k».proof.Proof.Pieces

@[expose] public section

noncomputable section

namespace Cert.GradSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)
variable (o : Memref sig .tc .vmem S2x2048 .f32) (ho : o.IsWhole)

theorem sep4 (Φ : Fin 4 → sProp 𝕄) : bigSep Finset.univ Φ = iprop(Φ 0 ∗ Φ 1 ∗ Φ 2 ∗ Φ 3) := by
  rw [bigSep_univ_eq_bigSepL [0, 1, 2, 3] (by decide) (by decide) Φ]
  rfl
theorem sep7 (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide) Φ]
  rfl

theorem zero3 : (![0, 0, 0] : Fin 3 → ℕ) = fun _ => 0 := by funext a; fin_cases a <;> rfl
theorem zero2 : (![0, 0] : Fin 2 → ℕ) = fun _ => 0 := by funext a; fin_cases a <;> rfl

/-- What is held of the gather buffer when all copies and receptions have been waited for: the remainder of the device's
    own slot, its seven shares, the seven peers' slots. -/
theorem gath_join :
    iprop(slotP c c (Transfers.shareDrop fullShare 7) (GB m) ∗ (bigSep Finset.univ fun k : Fin 7 => slotP c c (Transfers.shareTok fullShare 7 k) (GB m))
        ∗ bigSep Finset.univ fun k : Fin 7 => slotP c (peer k c) fullShare (GB m))
      ⊢ (((c : Thread nD τ).loc cc0_scratch2) ↦{fullShare} GB m : sProp 𝕄) := by
  rw [gath_eq]
  iintro ⟨Hd, Ht, Hp⟩
  isplitl [Hd Ht]
  · iapply (own_split c (GB m)).2
    isplitl [Hd]; · iexact Hd
    iexact Ht
  iexact Hp

/-- What the device holds of its sends and receptions at the end. -/
def exchDone : sProp 𝕄 :=
  iprop((bigSep Finset.univ fun k : Fin 7 => semVal (kcell (c, .snd k)) 0) ∗ (bigSep Finset.univ fun k : Fin 7 => semVal (kcell (c, .rcv k)) 0)
    ∗ ((c : Thread nD τ).loc cc0_scratch2) ↦{fullShare} GB m)

/-- The last waits, and the load of the whole gather buffer. -/
theorem part16 (v111 v112 v119 v120 v121 v476 v477 : BitVec 32) :
    iprop(records m K ∗ levAts L lv ∗ slotP c c (Transfers.shareDrop fullShare 7) (GB m) ∗ sDone m c 0 ∗ sDone m c 1 ∗ sDone m c 2 ∗ sDone m c 3 ∗ sDone m c 4 ∗ sDone m c 5 ∗ rDone m c 0 ∗ rDone m c 1 ∗ rDone m c 2 ∗ rDone m c 3 ∗ rDone m c 4 ∗ waitReady c (.rcv 5) ∗ waitReady c (.snd 6) ∗ waitReady c (.rcv 6) ∗ owesAny c 0)
      ⊢ wpc c (k0_part16 (F := F) (Memref.whole main_arg0) (Memref.isWhole_whole _) (Memref.whole main_arg1) (Memref.isWhole_whole _) o ho
          (Memref.whole cc0_scratch0) (Memref.isWhole_whole _) (Memref.whole cc0_scratch1) (Memref.isWhole_whole _) (Memref.whole cc0_scratch2) (Memref.isWhole_whole _)
          cc0_scratch3 cc0_scratch4 cc0_scratch5 c v111 v112 v119 v120 v121 v476 v477)
        fun v => iprop(⌜v = GB m⌝ ∗ exchDone m c ∗ owesAny c 0) := by
  rw [k0_part16_eq_skeleton]
  unfold sDone rDone k0_part16_skel
  simp only [semSignalWord, semWaitWord, Prog.lift, Prog.bind_op, Prog.bind_ret, Prog.pure_eq_ret, wp_deviceId]
  iintro ⟨#HR, #Hlev, Hd, S0, S1, S2, S3, S4, S5, R0, R1, R2, R3, R4, Wr5, Ws6, Wr6, HO⟩
  icases S0 with ⟨Zs0, Hs0⟩
  icases S1 with ⟨Zs1, Hs1⟩
  icases S2 with ⟨Zs2, Hs2⟩
  icases S3 with ⟨Zs3, Hs3⟩
  icases S4 with ⟨Zs4, Hs4⟩
  icases S5 with ⟨Zs5, Hs5⟩
  icases R0 with ⟨Zr0, Hr0⟩
  icases R1 with ⟨Zr1, Hr1⟩
  icases R2 with ⟨Zr2, Hr2⟩
  icases R3 with ⟨Zr3, Hr3⟩
  icases R4 with ⟨Zr4, Hr4⟩
  iapply (wp_rwait m K c 5 rfl) $$ [Wr5 HO]
  · iclose
  iintro ⟨HO, Zr5, Hr5⟩
  iapply (wp_swait m K c 6 rfl) $$ [Ws6 HO]
  · iclose
  iintro ⟨HO, Zs6, Hs6⟩
  iapply (wp_rwait m K c 6 rfl) $$ [Wr6 HO]
  · iclose
  iintro ⟨HO, Zr6, Hr6⟩
  ihave Hg := (gath_join m c) $$ [Hd Hs0 Hs1 Hs2 Hs3 Hs4 Hs5 Hs6 Hr0 Hr1 Hr2 Hr3 Hr4 Hr5 Hr6]
  · simp only [sep7]
    iclose
  iapply (wp_load 𝒱₀ (c : Thread nD τ) none Set.univ (m := gath) (S := Finset.univ) (Finset.subset_univ _)) $$ Hg
  iintro Hg
  iapply (wpc_ret c)
  isplitr; · ipureintro; exact Memref.readAt_unit_zero (Elt F) cc0_scratch2 zero3 _ (GB m)
  unfold exchDone
  isplitr [HO]
  · simp only [sep7]
    isplitl [Zs0 Zs1 Zs2 Zs3 Zs4 Zs5 Zs6]; · iclose
    isplitl [Zr0 Zr1 Zr2 Zr3 Zr4 Zr5 Zr6]; · iclose
    iexact Hg
  iexact HO

/-! ## The whole body -/

/-- What device `c` starts from. -/
def bodyIn : sProp 𝕄 :=
  iprop((bigSep Finset.univ fun k : Fin 4 => xReady m c k) ∗ (bigSep Finset.univ fun k : Fin 4 => yReady m c k)
    ∗ (bigSep Finset.univ fun k : Fin 7 => sigReady (F := F) c k)
    ∗ (∃ f, slotP (F := F) c c fullShare f)
    ∗ (bigSep Finset.univ fun k : Fin 7 => iprop(dutyTok ER (kcell (c, .snd k)) 0 (0 : D) ∗ dutyTok ER (kcell (peer k c, .rcv k)) 0 (0 : D) ∗ atPos ER (kcell (c, .snd k)) 0 ∅ 0))
    ∗ waitReady c .bar
    ∗ (bigSep Finset.univ fun k : Fin 7 => waitReady (F := F) c (.rcv k)))

/-- What it ends with. -/
def bodyOut : sProp 𝕄 :=
  iprop((bigSep Finset.univ fun k : Fin 4 => xDone m c k) ∗ (bigSep Finset.univ fun k : Fin 4 => yDone m c k) ∗ semVal (kcell (c, .bar)) 0 ∗ exchDone m c)

/-- The shares of the device's own slot and its slots of the peers' buffers are what the copies need. -/
theorem send_intro :
    iprop((bigSep Finset.univ fun k : Fin 7 => slotP c c (Transfers.shareTok fullShare 7 k) (GB m)) ∗ (bigSep Finset.univ fun k : Fin 7 => iprop(∃ f, slotP (F := F) (peer k c) c fullShare f))
        ∗ (bigSep Finset.univ fun k : Fin 7 => iprop(dutyTok ER (kcell (c, .snd k)) 0 (0 : D) ∗ dutyTok ER (kcell (peer k c, .rcv k)) 0 (0 : D) ∗ atPos ER (kcell (c, .snd k)) 0 ∅ 0)))
      ⊢ bigSep Finset.univ fun k : Fin 7 => sendReady m c k := by
  rw [← bigSep_sep', ← bigSep_sep']
  exact Entails.of_eq rfl

set_option maxHeartbeats 1600000 in
/-- The body, its parts one after another. -/
theorem body_wp :
    iprop(records m K ∗ levAts L lv ∗ bodyIn m c ∗ owesAny c (O₀ c) ∗ ∃ f, ((c : Thread nD τ).loc cc0_stg0_0) ↦{fullShare} f)
      ⊢ wpc c (cc0_body (F := F) (Memref.whole main_arg0) (Memref.isWhole_whole _) (Memref.whole main_arg1) (Memref.isWhole_whole _) (Memref.whole cc0_stg0_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5)
        fun _ => iprop(bodyOut m c ∗ owesAny c 0 ∗ ((c : Thread nD τ).loc cc0_stg0_0) ↦{fullShare} outV m) := by
  rw [cc0_body_eq_skeleton]
  unfold cc0_body_skel bodyIn
  simp only [sep4]
  iintro ⟨#HR, #Hlev, ⟨⟨X0, X1, X2, X3⟩, ⟨Y0, Y1, Y2, Y3⟩, HS, Hs, Ht, Wb, HW⟩, HO, Ho⟩
  icases Ho with ⟨%fo, Ho⟩
  ihave HS := (Entails.of_eq (sep7 (fun k : Fin 7 => sigReady (F := F) c k))) $$ HS
  ihave HW := (Entails.of_eq (sep7 (fun k : Fin 7 => waitReady (F := F) c (.rcv k)))) $$ HW
  icases HS with ⟨S0, S1, S2, S3, S4, S5, S6⟩
  icases HW with ⟨Wr0, Wr1, Wr2, Wr3, Wr4, Wr5, Wr6⟩
  iapply (wp_part c (part1 m K c (Memref.whole cc0_stg0_0) (Memref.isWhole_whole _))) $$ [X0 Y0]
  · iclose
  iintro %v ⟨%hv, Wx0, Wy0⟩
  obtain ⟨d0, v2, v5, v8, v12, v15⟩ := v
  have hd : c = d0 := hv.symm
  subst hd
  dsimp only
  iapply (wp_part c (part2 m K c (Memref.whole cc0_stg0_0) (Memref.isWhole_whole _) v15)) $$ [X1 Y1 X2 Y2 X3]
  · iclose
  iintro %_ ⟨Wx1, Wy1, Wx2, Wy2, Wx3⟩
  iapply (wp_part c (part3 m K c (Memref.whole cc0_stg0_0) (Memref.isWhole_whole _) v2 v5 v8)) $$ [Y3 S0 S1 HO]
  · iclose
  iintro %v ⟨%hv, Wy3, HO⟩
  obtain ⟨v64, v65, v66, v67, v74, v75, v76, v83, v84, v85, v87, v88⟩ := v
  cases hv
  dsimp only
  iapply (wp_part c (part4 m K c (Memref.whole cc0_stg0_0) (Memref.isWhole_whole _) v2 v5 v8 v84 v85 v87 v88)) $$ [S2 S3 S4 S5 HO]
  · iclose
  iintro %v HO
  obtain ⟨v92, v93, v94, v101, v102, v103, v110, v111, v112⟩ := v
  dsimp only
  iapply (wp_part c (part5 m K c (Memref.whole cc0_stg0_0) (Memref.isWhole_whole _) v2 v5 v8)) $$ [S6 Wx0 HO]
  · iclose
  iintro %v ⟨%hv, X0, HO⟩
  obtain ⟨v119, v120, v121, v152⟩ := v
  cases hv
  dsimp only
  iapply (wp_part c (part6 m K c (Memref.whole cc0_stg0_0) (Memref.isWhole_whole _))) $$ [Wy0 Wx1 HO]
  · iclose
  iintro %v ⟨%hv, Y0, X1, HO⟩
  obtain ⟨v161, v162, v187⟩ := v
  obtain ⟨h1, h2, h3⟩ := hv
  cases h1; cases h2; cases h3
  dsimp only
  iapply (wp_part c (part7 m K c (Memref.whole cc0_stg0_0) (Memref.isWhole_whole _))) $$ [Wy1 Wx2 HO]
  · iclose
  iintro %v ⟨%hv, Y1, X2, HO⟩
  obtain ⟨v198, v199, v224⟩ := v
  obtain ⟨h1, h2, h3⟩ := hv
  cases h1; cases h2; cases h3
  dsimp only
  iapply (wp_part c (part8 m K c (Memref.whole cc0_stg0_0) (Memref.isWhole_whole _))) $$ [Wy2 Wx3 HO]
  · iclose
  iintro %v ⟨%hv, Y2, X3, HO⟩
  obtain ⟨v235, v236, v259, v260⟩ := v
  obtain ⟨h1, h2, h3, h4⟩ := hv
  cases h1; cases h2; cases h3; cases h4
  dsimp only
  iapply (wp_part c (part9 m K c (Memref.whole cc0_stg0_0) (Memref.isWhole_whole _) v12 v65 v66 v67)) $$ [Wy3 Hs Wb HO]
  · isplitr; · iexact HR
    isplitr; · iexact Hlev
    isplitl [Wy3]; · iexact Wy3
    isplitl [Hs]; · iexact Hs
    isplitl [Wb]; · iexact Wb
    iexact HO
  iintro %_ ⟨Y3, Hs, Zb, Hp, HO⟩
  ihave Hs := (own_split c (GB m)).1 $$ Hs
  icases Hs with ⟨Hd, Hs⟩
  ihave HS := (send_intro m c) $$ [Hs Hp Ht]
  · isplitl [Hs]; · iexact Hs
    isplitl [Hp]; · iexact Hp
    iexact Ht
  ihave HS := (Entails.of_eq (sep7 (fun k : Fin 7 => sendReady m c k))) $$ HS
  icases HS with ⟨S0, S1, S2, S3, S4, S5, S6⟩
  iapply (wp_part c (part10 m K c (Memref.whole cc0_stg0_0) (Memref.isWhole_whole _) v74 v75 v76 v83 v84 v85 v92)) $$ [S0 S1 S2 HO]
  · iclose
  iintro %v324 ⟨Ws0, Ws1, Ws2, HO⟩
  iapply (wp_part c (part11 m K c (Memref.whole cc0_stg0_0) (Memref.isWhole_whole _) v93 v94 v101 v102 v103 v110 v111 v112 v324)) $$ [S3 S4 HO]
  · iclose
  iintro %_ ⟨Ws3, Ws4, HO⟩
  iapply (wp_part c (part12 m K c (Memref.whole cc0_stg0_0) (Memref.isWhole_whole _) v65 v66 v119 v120 v121)) $$ [S5 S6 Ws0 HO]
  · iclose
  iintro %v ⟨Ws5, Ws6, S0, HO⟩
  obtain ⟨v389, v390⟩ := v
  dsimp only
  iapply (wp_part c (part13 m K c (Memref.whole cc0_stg0_0) (Memref.isWhole_whole _) v67 v74 v75 v76 v389 v390)) $$ [Wr0 Ws1 Wr1 HO]
  · iclose
  iintro %_ ⟨R0, S1, R1, HO⟩
  iapply (wp_part c (part14 m K c (Memref.whole cc0_stg0_0) (Memref.isWhole_whole _) v83 v84 v85 v92 v93 v94)) $$ [Ws2 Wr2 Ws3 HO]
  · iclose
  iintro %_ ⟨S2, R2, S3, HO⟩
  iapply (wp_part c (part15 m K c (Memref.whole cc0_stg0_0) (Memref.isWhole_whole _) v101 v102 v103 v110)) $$ [Wr3 Ws4 Wr4 Ws5 HO]
  · iclose
  iintro %v ⟨R3, S4, R4, S5, HO⟩
  obtain ⟨v476, v477⟩ := v
  dsimp only
  iapply (wp_part c (part16 m K c (Memref.whole cc0_stg0_0) (Memref.isWhole_whole _) v111 v112 v119 v120 v121 v476 v477)) $$ [Hd S0 S1 S2 S3 S4 S5 R0 R1 R2 R3 R4 Wr5 Ws6 Wr6 HO]
  · iclose
  iintro %v ⟨%hv, HE, HO⟩
  cases hv
  simp only [Prog.lift, Prog.bind_op, Prog.bind_ret, Prog.pure_eq_ret]
  iapply (wp_load 𝒱₀ (c : Thread nD τ) none Set.univ (m := (Memref.whole cc0_stg0_0 : Memref sig .tc .vmem S2x2048 .f32)) (S := Finset.univ) (Finset.subset_univ _)) $$ Ho
  iintro Ho
  iapply (wp_store 𝒱₀ (c : Thread nD τ) none Set.univ (m := (Memref.whole cc0_stg0_0 : Memref sig .tc .vmem S2x2048 .f32)) (r := Rect.unit (s := S2x2048) ![0, 0] S2x2048.size inb_S2x2048_S2x2048_0_0) (S := Finset.univ) (Mk := Finset.univ) (Finset.subset_univ _)) $$ Ho
  iintro Ho
  iapply (wpc_ret c)
  rw [show ((Memref.whole cc0_stg0_0 : Memref sig .tc .vmem S2x2048 .f32).access (Rect.unit (s := S2x2048) ![0, 0] S2x2048.size inb_S2x2048_S2x2048_0_0)).write (Elt F) fo (k0_pay1 (GB m)) Finset.univ = outV m
    from Memref.write_access_unit_zero_univ (Elt F) cc0_stg0_0 zero2 _ fo (k0_pay1 (GB m))]
  unfold bodyOut
  simp only [sep4]
  isplitr [HO Ho]
  · isplitl [X0 X1 X2 X3]; · iclose
    isplitl [Y0 Y1 Y2 Y3]; · iclose
    isplitl [Zb]; · iexact Zb
    iexact HE
  isplitl [HO]; · iexact HO
  iexact Ho

end Cert.GradSums

end
-- ==== Proof.Start.lean ====
/-
# From a launch to a run of the body, and back
-/
module

public import proofs.«01_k».proof.Proof.Body

@[expose] public section

noncomputable section

namespace Cert.GradSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)
variable (o : Memref sig .tc .vmem S2x2048 .f32) (ho : o.IsWhole)

/-- A family over the cells of a device, kind by kind. -/
theorem ci_eq (Φ : CI → sProp 𝕄) : bigSep Finset.univ Φ
    = iprop((bigSep Finset.univ fun k : Fin 4 => Φ (.lx k)) ∗ (bigSep Finset.univ fun k : Fin 4 => Φ (.ly k))
        ∗ (bigSep Finset.univ fun k : Fin 7 => Φ (.snd k)) ∗ (bigSep Finset.univ fun k : Fin 7 => Φ (.rcv k)) ∗ Φ .bar) := by
  rw [bigSep_univ_sum, bigSep_univ_sum, bigSep_univ_sum, bigSep_univ_sum,
    show (bigSep Finset.univ fun b : Unit => Φ (.inr (.inr (.inr (.inr b))))) = Φ .bar from
      bigSep_univ_eq_bigSepL [()] (by decide) (by decide) (fun b : Unit => Φ (.inr (.inr (.inr (.inr b)))))]
  rfl

/-! ## Who pays which duty -/

/-- Duty `d` of a cell of kind `i` is paid by device `c` at this device's cell; and conversely. -/
def tgt (c : Dev nD) : CI → D → Dev nD
  | .rcv k, _ => peer k c
  | .bar, d => peer d c
  | _, _ => c

theorem tgt_tgt (i : CI) (d : D) (c : Dev nD) : tgt (tgt c i d) i d = c := by
  rcases i with k | k | k | k | u
  · rfl
  · rfl
  · rfl
  · exact peer_peer k c
  · exact peer_peer d c

/-- The duties' redistribution: from the cell's owner to the payer. -/
def payer : (Dev nD × CI × D) ≃ (Dev nD × CI × D) where
  toFun x := (tgt x.1 x.2.1 x.2.2, x.2.1, x.2.2)
  invFun x := (tgt x.1 x.2.1 x.2.2, x.2.1, x.2.2)
  left_inv := fun ⟨c, i, d⟩ => by show (tgt (tgt c i d) i d, i, d) = _; rw [tgt_tgt]
  right_inv := fun ⟨c, i, d⟩ => by show (tgt (tgt c i d) i d, i, d) = _; rw [tgt_tgt]

/-- The tokens of all duties that device `c` pays. -/
def payToks (c : Dev nD) : sProp 𝕄 :=
  bigSep Finset.univ fun x : CI × D => dutyTok ER (kcell (tgt c x.1 x.2, x.1)) 0 x.2

/-- Of them, those of its local copies, of its sends, of its copies' receptions, of its signals. -/
theorem payToks_split :
    (payToks c : sProp 𝕄) ⊢ iprop((bigSep Finset.univ fun k : Fin 4 => dutyTok ER (kcell (c, .lx k)) 0 (0 : D))
      ∗ (bigSep Finset.univ fun k : Fin 4 => dutyTok ER (kcell (c, .ly k)) 0 (0 : D))
      ∗ (bigSep Finset.univ fun k : Fin 7 => dutyTok ER (kcell (c, .snd k)) 0 (0 : D))
      ∗ (bigSep Finset.univ fun k : Fin 7 => dutyTok ER (kcell (peer k c, .rcv k)) 0 (0 : D))
      ∗ bigSep Finset.univ fun k : Fin 7 => dutyTok ER (kcell (peer k c, .bar)) 0 k) := by
  unfold payToks
  rw [bigSep_univ_prod, ci_eq]
  exact sep_mono (bigSep_mono fun k _ => bigSep_elim (Finset.mem_univ (0 : D))) (sep_mono (bigSep_mono fun k _ => bigSep_elim (Finset.mem_univ (0 : D)))
    (sep_mono (bigSep_mono fun k _ => bigSep_elim (Finset.mem_univ (0 : D))) (sep_mono (bigSep_mono fun k _ => bigSep_elim (Finset.mem_univ (0 : D)))
      (BI.Entails.refl _))))

/-! ## Before and after the body -/

/-- What device `c` has when its kernel starts: the records, the levels, its positions, the tokens of the duties it pays, the
    credit of its barrier cell and of its receive cells, its arrays. -/
def entry (c : Dev nD) : sProp 𝕄 :=
  iprop((∃ K, records m K) ∗ levAts L lv ∗ (bigSep Finset.univ fun i : CI => atPos ER (kcell (c, i)) 0 ∅ 0) ∗ payToks c
    ∗ cred (tallyAt (kcell (c, .bar)) () 7) ∗ (bigSep Finset.univ fun k : Fin 7 => cred (tallyAt (kcell (c, .rcv k)) () NS))
    ∗ (((c : Thread nD τ).loc main_arg0) ↦{fullShare} m ((c : Thread nD τ).loc main_arg0))
    ∗ (((c : Thread nD τ).loc main_arg1) ↦{fullShare} m ((c : Thread nD τ).loc main_arg1)))

/-- The three scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(entry m c ∗ scratch (F := F) c)
/-- Afterwards: its arrays as before, the scratch, every counter at zero. -/
def Φ₁ (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ scratch (F := F) c ∗ bigSep Finset.univ fun i : CI => semVal (kcell (c, i)) 0)

theorem some_xWin (f : Buf (Elt F) ((c : Thread nD τ).loc cc0_scratch0)) :
    (bigSep Finset.univ fun k : Fin 4 => xWinP (F := F) c k f) ⊢ (bigSep Finset.univ fun k : Fin 4 => iprop(∃ f, xWinP (F := F) c k f) : sProp 𝕄) :=
  bigSep_mono fun k _ => (show (xWinP (F := F) c k f : sProp 𝕄) ⊢ iprop(∃ f, xWinP (F := F) c k f) from by iintro H; iexists f; iexact H)
theorem some_yWin (f : Buf (Elt F) ((c : Thread nD τ).loc cc0_scratch1)) :
    (bigSep Finset.univ fun k : Fin 4 => yWinP (F := F) c k f) ⊢ (bigSep Finset.univ fun k : Fin 4 => iprop(∃ f, yWinP (F := F) c k f) : sProp 𝕄) :=
  bigSep_mono fun k _ => (show (yWinP (F := F) c k f : sProp 𝕄) ⊢ iprop(∃ f, yWinP (F := F) c k f) from by iintro H; iexists f; iexact H)
theorem some_slot (f : Buf (Elt F) ((c : Thread nD τ).loc cc0_scratch2)) :
    (bigSep Finset.univ fun k : Fin 7 => slotP (F := F) c (peer k c) fullShare f)
      ⊢ (bigSep Finset.univ fun k : Fin 7 => iprop(∃ f, slotP (F := F) c (peer k c) fullShare f) : sProp 𝕄) :=
  bigSep_mono fun k _ => (show (slotP (F := F) c (peer k c) fullShare f : sProp 𝕄) ⊢ iprop(∃ f, slotP (F := F) c (peer k c) fullShare f) from by iintro H; iexists f; iexact H)

theorem enter :
    Φ₀ m c ⊢ iprop(∃ K, records m K ∗ levAts L lv ∗ bodyIn m c ∗ xRestP m c ∗ yRestP m c) := by
  unfold Φ₀ entry scratch bodyIn xReady yReady sigReady waitReady
  simp only [bigSep_sep']
  iintro ⟨⟨⟨%K, HR⟩, Hlev, Hat, Htok, Cb, Cr, Hx, Hy⟩, ⟨%f0, H0⟩, ⟨%f1, H1⟩, ⟨%f2, H2⟩⟩
  iexists K
  ihave Hat := (Entails.of_eq (ci_eq fun i : CI => atPos ER (kcell (c, i)) 0 ∅ 0)) $$ Hat
  icases Hat with ⟨Ax, Ay, As, Ar, Ab⟩
  ihave Htok := (payToks_split c) $$ Htok
  icases Htok with ⟨Tx, Ty, Ts, Tr, Tb⟩
  ihave Hx := (xArr_eq m c).1 $$ Hx
  icases Hx with ⟨Hx, Hxr⟩
  ihave Hy := (yArr_eq m c).1 $$ Hy
  icases Hy with ⟨Hy, Hyr⟩
  ihave H0 := (Entails.of_eq (xScr_eq c f0)) $$ H0
  ihave H0 := (some_xWin c f0) $$ H0
  ihave H1 := (Entails.of_eq (yScr_eq c f1)) $$ H1
  ihave H1 := (some_yWin c f1) $$ H1
  ihave H2 := (Entails.of_eq (gath_eq c f2)) $$ H2
  icases H2 with ⟨Hs, Hp⟩
  ihave Hp := (some_slot c f2) $$ Hp
  isplitl [HR]; · iexact HR
  isplitl [Hlev]; · iexact Hlev
  isplitr [Hxr Hyr]
  · isplitl [H0 Hx Tx Ax]
    · isplitl [H0]; · iexact H0
      isplitl [Hx]; · iexact Hx
      isplitl [Tx]; · iexact Tx
      iexact Ax
    isplitl [H1 Hy Ty Ay]
    · isplitl [H1]; · iexact H1
      isplitl [Hy]; · iexact Hy
      isplitl [Ty]; · iexact Ty
      iexact Ay
    isplitl [Hp Tb]
    · isplitl [Hp]; · iexact Hp
      iexact Tb
    isplitl [Hs]; · iexists f2; iexact Hs
    isplitl [Ts Tr As]
    · isplitl [Ts]; · iexact Ts
      isplitl [Tr]; · iexact Tr
      iexact As
    isplitl [Cb Ab]
    · isplitl [Cb]; · iexact Cb
      iexact Ab
    isplitl [Cr]; · iexact Cr
    iexact Ar
  isplitl [Hxr]; · iexact Hxr
  iexact Hyr

theorem leave : iprop(bodyOut m c ∗ xRestP m c ∗ yRestP m c) ⊢ Φ₁ m c := by
  unfold Φ₁ scratch bodyOut xDone yDone exchDone
  simp only [bigSep_sep']
  rw [ci_eq]
  iintro ⟨⟨⟨Zx, H0, Hx⟩, ⟨Zy, H1, Hy⟩, Zb, Zs, Zr, H2⟩, Hxr, Hyr⟩
  isplitl [Hx Hxr]
  · iapply (xArr_eq m c).2
    isplitl [Hx]; · iexact Hx
    iexact Hxr
  isplitl [Hy Hyr]
  · iapply (yArr_eq m c).2
    isplitl [Hy]; · iexact Hy
    iexact Hyr
  isplitl [H0 H1 H2]
  · isplitl [H0]
    · iexists XB m c
      iapply (Entails.of_eq (xScr_eq c (XB m c)).symm); iexact H0
    isplitl [H1]
    · iexists YB m c
      iapply (Entails.of_eq (yScr_eq c (YB m c)).symm); iexact H1
    iexists GB m; iexact H2
  isplitl [Zx]; · iexact Zx
  isplitl [Zy]; · iexact Zy
  isplitl [Zs]; · iexact Zs
  isplitl [Zr]; · iexact Zr
  iexact Zb

/-! ## What is owed, counted -/

theorem tally_kcell (a b : Dev nD × CI) (n : ℕ) : (tallyAt (kcell a) () n : CellTallies nD τ sig Unit) (kcell b) () = if b = a then n else 0 := by
  rw [tallyAt_apply]
  by_cases h : b = a
  · rw [if_pos h, if_pos ⟨congrArg kcell h, rfl⟩]
  · rw [if_neg h, if_neg fun h' => h (kcell_inj h'.1)]

/-- Device `d` owes device `c`'s barrier cell a unit, unless it is `c`. -/
theorem owed_bar (d c : Dev nD) : O₀ d (kcell (c, .bar)) () = if d = c then 0 else 1 := by
  simp only [O₀, OB, OR, Pi.add_apply, Finsupp.add_apply, tally_kcell, Pi.zero_apply, Finsupp.zero_apply, Prod.mk.injEq, Sum.inr.injEq, reduceCtorEq, and_false, and_true, if_false]
  revert d c; decide

/-- It owes `c`'s receive cell `k` a block, if it is `c`'s peer `k`. -/
theorem owed_rcv (d c : Dev nD) (k : Fin 7) : O₀ d (kcell (c, .rcv k)) () = if d = peer k c then NS else 0 := by
  have h (k' : Fin 7) : ((c, (.rcv k : CI)) = (peer k' d, .rcv k')) ↔ (k = k' ∧ d = peer k c) := by
    constructor
    · intro h
      have h1 : c = peer k' d := congrArg Prod.fst h
      have h2 : k = k' := Sum.inl.inj (Sum.inr.inj (Sum.inr.inj (Sum.inr.inj (congrArg Prod.snd h))))
      exact ⟨h2, by rw [h1, h2, peer_peer]⟩
    · rintro ⟨rfl, rfl⟩; rw [peer_peer]
  simp only [O₀, OB, OR, Pi.add_apply, Finsupp.add_apply, tally_kcell, Pi.zero_apply, Finsupp.zero_apply, h, Prod.mk.injEq, Sum.inr.injEq, reduceCtorEq, and_false, if_false]
  generalize NS = n
  by_cases hd : d = peer k c
  · simp only [hd, and_true, if_true]; fin_cases k <;> simp
  · simp only [hd, and_false, if_false]

theorem launch_bar : tallyOn (kcell (c, .bar)) (launchCredit (Pipeline.owing O₀) 0 (kcell (c, .bar))) = (tallyAt (kcell (c, .bar)) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_rcv (k : Fin 7) : tallyOn (kcell (c, .rcv k)) (launchCredit (Pipeline.owing O₀) 0 (kcell (c, .rcv k))) = (tallyAt (kcell (c, .rcv k)) () NS : CellTallies nD τ sig Unit) := by
  unfold tallyAt; refine congrArg _ (Finsupp.ext fun u => ?_); cases u
  rw [Pipeline.launchCredit_owing, Finsupp.single_eq_same, Finset.sum_congr rfl fun d _ => owed_rcv d c k, Finset.sum_ite_eq' Finset.univ (peer k c) fun _ => NS,
    if_pos (Finset.mem_univ _)]

theorem last_two (A₁ A₂ A₃ A₄ A₅ : sProp 𝕄) : iprop(A₁ ∗ A₂ ∗ A₃ ∗ A₄ ∗ A₅) ⊢ iprop(A₅ ∗ A₄) := by
  iintro ⟨-, -, -, H4, H5⟩
  isplitl [H5]; · iexact H5
  iexact H4

/-- A device's credit at launch: seven units at its barrier, a block at each receive cell. -/
theorem creds :
    (Pipeline.launchCred O₀ c : sProp 𝕄)
      ⊢ iprop(cred (tallyAt (kcell (c, .bar)) () 7) ∗ bigSep Finset.univ fun k : Fin 7 => cred (tallyAt (kcell (c, .rcv k)) () NS)) := by
  unfold Pipeline.launchCred
  have h := BI.bigSep_subset (Finset.subset_univ (Finset.univ.map ⟨csem, csem_inj⟩))
    (Φ := fun sm : SemLoc sig => (cred (tallyOn ((c : Thread nD τ), sm) (launchCredit (Pipeline.owing O₀) 0 ((c : Thread nD τ), sm))) : sProp 𝕄))
  rw [bigSep_map, ci_eq] at h
  exact h.trans ((last_two _ _ _ _ _).trans (BI.sep_mono (Entails.of_eq (congrArg cred (launch_bar c)))
    (Entails.of_eq (BI.bigSep_congr fun k _ => congrArg cred (launch_rcv c k)))))

end Cert.GradSums

end
-- ==== Proof.Run.lean ====
/-
# The run of the program on the mesh
-/
module

public import proofs.«01_k».proof.Proof.Start
public import Idealize.ShloMosaic.Lib.Pipeline.CollectiveSegs
public import Idealize.ShloMosaic.Lib.Quiescent

@[expose] public section

noncomputable section

namespace Cert.GradSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)
variable (o : Memref sig .tc .vmem S2x2048 .f32) (ho : o.IsWhole)

variable (ρ : Dev nD → PrngReg)

/-- The initial state: memory `m`, every counter at zero. -/
abbrev s₀ : MemSt nD τ sig (Elt F) := ⟨m, fun _ => 0, ρ⟩

/-! ## The pipeline's data: one point, one output window -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The output's staging buffer at contents `X`. -/
abbrev stg (X : cc0_stg0_0.ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre : sProp 𝕄 :=
  iprop(Φ₀ m c ∗ (dats m ρ 0 c).owesAt () t0_0.castSucc ∗ (∃ d, stg c ((dats m ρ 0 c).before (0 : Fin 1) t0_0 d)))
def bodyPost : sProp 𝕄 :=
  iprop(Φ₁ m c ∗ (dats m ρ 0 c).owesAt () t0_0.succ ∗ stg c (outV m))

theorem body_run :
    bodyPre m c ρ ⊢ wpc c (cc0_body (F := F) (Memref.whole main_arg0) (Memref.isWhole_whole _) (Memref.whole main_arg1) (Memref.isWhole_whole _) (Memref.whole cc0_stg0_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5) fun _ => bodyPost m c ρ := by
  unfold bodyPre
  iintro ⟨H, HO, ⟨%d, %g, %hg, Ho⟩⟩
  ihave H := (enter m c) $$ H
  icases H with ⟨%K, HR, Hlev, Hb, Hxr, Hyr⟩
  unfold Dat.owesAt Pipeline.owesWithin
  icases HO with ⟨%W, %hW, HO⟩
  iapply ((body_wp m K c).trans (wp_wand _ _ _)) $$ [HR Hlev Hb HO Ho]
  · isplitl [HR]; · iexact HR
    isplitl [Hlev]; · iexact Hlev
    isplitl [Hb]; · iexact Hb
    isplitl [HO]; · unfold owesAny; iexists W; iexact HO
    iexists g; iexact Ho
  iintro %_ ⟨Hb, HO, Ho⟩
  unfold bodyPost owesAny
  isplitl [Hb Hxr Hyr]
  · iapply (leave m c)
    isplitl [Hb]; · iexact Hb
    isplitl [Hxr]; · iexact Hxr
    iexact Hyr
  icases HO with ⟨%W', HO⟩
  isplitl [HO]
  · unfold Dat.owesAt Pipeline.owesWithin
    iexists W'
    isplitr; · ipureintro; exact fun _ _ => Or.inl trivial
    iexact HO
  iexists _; isplitr; · (ipureintro; rfl)
  iexact Ho

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m c ρ

/-! ## The launch -/

/-- The kernel's own semaphores: all that take part but the barrier. -/
abbrev OI : Type := Fin 4 ⊕ Fin 4 ⊕ Fin 7 ⊕ Fin 7
def osem : OI → SemLoc sig
  | .inl k => csem (.lx k)
  | .inr (.inl k) => csem (.ly k)
  | .inr (.inr (.inl k)) => csem (.snd k)
  | .inr (.inr (.inr k)) => csem (.rcv k)

theorem ownSemFacts : Pipeline.OwnSemFacts cfg0.spec osem := by decide

theorem share_eq (c : Dev nD) (w : Fin cfg0.W) : (dats m ρ 0 c).share w = fullShare := by unfold Dat.share; split <;> rfl

/-- All cells of the mesh, and all duties' tokens. -/
def cellsAll : Finset (GSem nD τ sig) := Finset.univ.map ⟨kcell, kcell_inj⟩
def tokAt (x : Dev nD × CI × D) : GSem nD τ sig × ℕ × D := (kcell (x.1, x.2.1), 0, x.2.2)
theorem tokAt_inj : Function.Injective tokAt := by
  rintro ⟨c, i, d⟩ ⟨c', i', d'⟩ h
  have h1 : (c, i) = (c', i') := kcell_inj (congrArg Prod.fst h)
  have h2 : d = d' := congrArg (fun x : GSem nD τ sig × ℕ × D => x.2.2) h
  cases h1; cases h2; rfl
def toksAll : Finset (GSem nD τ sig × ℕ × D) := Finset.univ.map ⟨tokAt, tokAt_inj⟩

def u₀ : UU := (initOf (Pipeline.cells cfgs cellOf_inj) (Pipeline.launchToks cfgs cellOf_inj), initOf cellsAll toksAll)

/-- The tokens of the duties of device `c`'s own cells. -/
def ownToks (c : Dev nD) : sProp 𝕄 := bigSep Finset.univ fun x : CI × D => dutyTok ER (kcell (c, x.1)) 0 x.2

def G (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ ownToks c)
def G' (c : Dev nD) : sProp 𝕄 :=
  iprop((∃ K, records m K) ∗ (bigSep Finset.univ fun i : CI => atPos ER (kcell (c, i)) 0 ∅ 0) ∗ payToks c)

theorem fund_cells : BI.own (ER (initOf cellsAll toksAll)) ⊢ (|==> bigSep Finset.univ (G m) : sProp 𝕄) := by
  have hX (Φ : GSem nD τ sig → sProp 𝕄) : bigSep cellsAll Φ = bigSep Finset.univ fun c : Dev nD => bigSep Finset.univ fun i : CI => Φ (kcell (c, i)) := by
    unfold cellsAll; rw [bigSep_map, bigSep_univ_prod]; rfl
  have hT : bigSep toksAll (fun x => (dutyTok ER x.1 x.2.1 x.2.2 : sProp 𝕄)) = bigSep Finset.univ fun c : Dev nD => ownToks c := by
    unfold toksAll; rw [bigSep_map, bigSep_univ_prod]; rfl
  iintro HX
  imod (Rounds.fund ER (Rd m) cellsAll toksAll) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem ownSems_eq : (Pipeline.ownSems0 (Ix := Unit) (Name := ℕ) (U := UU) (Lvl := ℕ) (Val := Elt F) (τ := τ) osem c : sProp 𝕄)
    = iprop((bigSep Finset.univ fun k : Fin 4 => semVal (kcell (c, .lx k)) 0) ∗ (bigSep Finset.univ fun k : Fin 4 => semVal (kcell (c, .ly k)) 0)
      ∗ (bigSep Finset.univ fun k : Fin 7 => semVal (kcell (c, .snd k)) 0) ∗ (bigSep Finset.univ fun k : Fin 7 => semVal (kcell (c, .rcv k)) 0)) := by
  unfold Pipeline.ownSems0
  rw [bigSep_univ_sum, bigSep_univ_sum, bigSep_univ_sum]
  rfl
theorem barSem_eq : (unscopedSems0 c : sProp 𝕄) = semVal (kcell (c, .bar)) 0 := by
  unfold unscopedSems0; rw [bigSep_eq_bigSepL_of_eq [SemLoc.reg barS] (by decide) (by decide)]; rfl

/-- A device's semaphores at zero are the kernel's own and the barrier. -/
theorem sems_split : (bigSep Finset.univ fun i : CI => (semVal (kcell (c, i)) 0 : sProp 𝕄))
    ⊣⊢ iprop(unscopedSems0 c ∗ (Pipeline.ownSems0 (Ix := Unit) (Name := ℕ) (U := UU) (Lvl := ℕ) (Val := Elt F) (τ := τ) osem c : sProp 𝕄)) := by
  rw [ci_eq, ownSems_eq, barSem_eq]
  constructor
  · iintro ⟨H1, H2, H3, H4, H5⟩
    isplitl [H5]; · iexact H5
    isplitl [H1]; · iexact H1
    isplitl [H2]; · iexact H2
    isplitl [H3]; · iexact H3
    iexact H4
  · iintro ⟨H5, H1, H2, H3, H4⟩
    isplitl [H1]; · iexact H1
    isplitl [H2]; · iexact H2
    isplitl [H3]; · iexact H3
    isplitl [H4]; · iexact H4
    iexact H5

theorem cells_alloc :
    iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) := by
  rw [← bigSep_sep']
  exact (bigSep_mono fun k _ => (Rounds.body_intro ER (Rd m) (kcell (c, k))).trans inv_alloc).trans (bigSep_fupd _ _)

theorem core_alloc :
    iprop((Pipeline.ownSems0 (Ix := Unit) (Name := ℕ) (U := UU) (Lvl := ℕ) (Val := Elt F) (τ := τ) osem c : sProp 𝕄) ∗ unscopedSems0 c ∗ G m c)
      ⊢ |={Set.univ}=> iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ ownToks c) := by
  unfold G
  iintro ⟨Hos, Hus, Hst, Hat, Htok⟩
  ihave Hv := (sems_split (F := F) c).2 $$ [Hos Hus]
  · isplitl [Hus]; · iexact Hus
    iexact Hos
  imod (cells_alloc m c) $$ [Hv Hst] with Hinv
  · isplitl [Hv]; · iexact Hv
    iexact Hst
  imodintro
  isplitl [Hinv]; · iexact Hinv
  isplitl [Hat]; · iexact Hat
  iexact Htok

/-- Every token goes to the device that pays the duty. -/
theorem toks_deal : (bigSep Finset.univ fun c : Dev nD => (ownToks c : sProp 𝕄)) = bigSep Finset.univ fun c : Dev nD => payToks c := by
  have h := BI.bigSep_univ_equiv payer (fun x : Dev nD × CI × D => (dutyTok ER (kcell (x.1, x.2.1)) 0 x.2.2 : sProp 𝕄))
  rw [bigSep_univ_prod, bigSep_univ_prod] at h
  exact h

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ ownToks c) : sProp 𝕄)
      ⊢ bigSep Finset.univ (G' m) := by
  rw [bigSep_sep', bigSep_sep', ← bigSep_univ_prod (fun ci : Dev nD × CI => iprop(∃ κ : ℕ, cellInv ER (Rd m) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄)), toks_deal]
  iintro ⟨HI, ⟨Hat, HR⟩, Htok⟩
  ihave HK := (BI.bigSep_exists_pi Finset.univ (fun (ci : Dev nD × CI) (κ : ℕ) => (cellInv ER (Rd m) κ (kcell ci) : sProp 𝕄))) $$ HI
  icases HK with ⟨%K, HI⟩
  iapply (with_persistent (R := records m K) (Φ := fun c : Dev nD => iprop((bigSep Finset.univ fun i : CI => atPos ER (kcell (c, i)) 0 ∅ 0) ∗ payToks c)) fun c _ =>
    (show iprop(records m K ∗ (bigSep Finset.univ fun i : CI => atPos ER (kcell (c, i)) 0 ∅ 0) ∗ payToks c) ⊢ G' m c from by
      unfold G'
      iintro ⟨HR, H⟩
      isplitl [HR]; · iexists K; iexact HR
      iexact H))
  isplitl [HI HR]
  · unfold records; rw [bigSep_sep']
    isplitl [HI]; · iexact HI
    iexact HR
  rw [bigSep_sep']
  isplitl [Hat]; · iexact Hat
  iexact Htok

/-- The launch's step over all devices at once. -/
theorem glob : (bigSep Finset.univ fun c => iprop((Pipeline.ownSems0 (Ix := Unit) (Name := ℕ) (U := UU) (Lvl := ℕ) (Val := Elt F) (τ := τ) osem c : sProp 𝕄) ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

/-- The argument that the kernel does not read, as at launch. -/
def gammaP (c : Dev nD) : sProp 𝕄 := (((c : Thread nD τ).loc main_arg2) ↦{fullShare} m ((c : Thread nD τ).loc main_arg2))

theorem rest_eq : (Pipeline.unscopedRestP Pipeline.Prefetch.none cfg0.spec c (fun b => m ((c : Thread nD τ).loc b)) : sProp 𝕄)
    = iprop((((c : Thread nD τ).loc main_arg0) ↦{fullShare} m ((c : Thread nD τ).loc main_arg0))
      ∗ (((c : Thread nD τ).loc main_arg1) ↦{fullShare} m ((c : Thread nD τ).loc main_arg1)) ∗ gammaP m c) :=
  Pipeline.unscopedRestP_eq_of_list (c := c) cfg0.spec Pipeline.Prefetch.none _ [main_arg0, main_arg1, main_arg2] (by decide) (by decide)

theorem entry_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(entry m c ∗ gammaP m c) := by
  rw [rest_eq]
  iintro ⟨⟨H0, H1, H2⟩, Hlev, Hcr, -, HG⟩
  ihave Hc := (creds (F := F) c) $$ Hcr
  icases Hc with ⟨Cb, Cr⟩
  imodintro
  unfold entry G'
  icases HG with ⟨HR, Hat, Ht⟩
  isplitr [H2]
  · isplitl [HR]; · iexact HR
    isplitl [Hlev]; · iexact Hlev
    isplitl [Hat]; · iexact Hat
    isplitl [Ht]; · iexact Ht
    isplitl [Cb]; · iexact Cb
    isplitl [Cr]; · iexact Cr
    isplitl [H0]; · iexact H0
    iexact H1
  iexact H2

theorem phi0_intro (c : Dev nD) :
    iprop(entry m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device holds outside its kernel at the end. -/
def final (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)) ∗ unscopedSems0 c)

theorem phi1_exit (c : Dev nD) :
    (dats m ρ 0 c).Φ (Fin.last cfg0.N) ⊢ iprop(final m c ∗ Pipeline.ownSems0 osem c ∗ Pipeline.scopedRest cfg0.spec c) := by
  rw [show (dats m ρ 0 c).Φ (Fin.last cfg0.N) = Φ₁ m c from rfl, scopedRest0_eq]
  unfold Φ₁ scratch final
  iintro ⟨H0, H1, Hr, Hz⟩
  ihave Hz := (sems_split (F := F) c).1 $$ Hz
  icases Hz with ⟨Hu, Hz⟩
  isplitl [H0 H1 Hu]
  · isplitl [H0]; · iexact H0
    isplitl [H1]; · iexact H1
    iexact Hu
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_OB c _ (by fin_cases w <;> fin_cases s <;> decide) _
    · exact mayWait_none c _

/-! ## The run -/

/-- What a final state holds outside the output arrays: the arguments as before, the barrier's counter at zero. -/
def argsKept (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ ∀ sm : SemLoc sig, sm.isScoped .tc = false → s.sem ((c : Thread nD τ), sm) = 0

theorem read_final (c : Dev nD) (s' : Phys nD τ sig (Elt F)) :
    iprop(final m c ∗ gammaP m c ∗ SI s') ⊢ |={Set.univ}=> iprop(⌜argsKept m c s'.mem⌝ ∗ (SI s' : sProp 𝕄)) := by
  unfold final gammaP
  iintro ⟨⟨H0, H1, Hu⟩, H2, HSI⟩
  icombine HSI H0 gives %h0
  icombine HSI H1 gives %h1
  icombine HSI H2 gives %h2
  imod (Pipeline.unscopedSems0_read (X := unscopedSems0 c) (c := c) fupd_intro s') $$ [Hu HSI] with ⟨%hu, HSI⟩
  · isplitl [Hu]; · iexact Hu
    iexact HSI
  imodintro
  isplitr
  · ipureintro
    exact ⟨⟨funext fun i => h0 i (Finset.mem_univ i), funext fun i => h1 i (Finset.mem_univ i), funext fun i => h2 i (Finset.mem_univ i)⟩, hu⟩
  iexact HSI

/-- The output array at the end of the pipeline. -/
def finalA (c : Dev nD) (w : Fin cfg0.W) : Buf (Elt F) ((cfg0.win w).arr.view.loc (c : Thread nD τ)) := (dats m ρ 0 c).arrAt w cfg0.N

def QC (r : PUnit × MemSt nD τ sig (Elt F)) : Prop :=
  ∀ c : Dev nD, (∀ w : Fin cfg0.W, r.2.mem ((cfg0.win w).arr.view.loc (c : Thread nD τ)) = finalA m ρ c w) ∧ argsKept m c r.2

set_option maxRecDepth 8000 in
/-- From any memory with zero counters the program of the eight devices terminates; the output arrays hold the computed
    contents, the arguments are unchanged and every counter is at zero. -/
theorem run_pipeline : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := entry m) (Y := final m) (Z := gammaP m)
    (hX := entry_intro m ρ) (hin := phi0_intro m ρ) (hout := phi1_exit m ρ)
    (QY := argsKept m) (hY := read_final m)
    (hQ := fun _ h hs => ⟨fun c => ⟨fun w => (h c).1 w, (h c).2.2⟩, sem_eq_zero hs fun c => (h c).2.2.2⟩)

end Cert.GradSums

end
-- ==== Proof.Final.lean ====
/-
# What the program leaves in its result
-/
module

public import proofs.«01_k».proof.Proof.Run
public import proofs.«01_k».proof.Proof.Gen.KernelIdeal.Points
public import Idealize.ShloMosaic.Lib.Pipeline.Value

@[expose] public section

noncomputable section

namespace Cert.GradSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)
variable (o : Memref sig .tc .vmem S2x2048 .f32) (ho : o.IsWhole)

variable (ρ : Dev nD → PrngReg)

/-- The one window of the result is the whole array. -/
theorem mem_win (t : Fin cfg0.N) (i : S2x2048.Idx) : i ∈ ((cfg0.win 0).blk t).view.set := by
  show i ∈ ((View.whole main_v1).slice (win0_0.rect t)).set
  rw [View.set_slice_whole, Rect.mem_set_unit]
  obtain rfl := fin_N0 t
  have e : win0_0.index t0_0 0 * win0_0.size 0 = 0 ∧ win0_0.xsize (grid0.coords t0_0) 0 = 2
      ∧ win0_0.index t0_0 1 * win0_0.size 1 = 0 ∧ win0_0.xsize (grid0.coords t0_0) 1 = 2048 := by decide +kernel
  have h0 : (i 0 : Nat) < 2 := (i 0).isLt
  have h1 : (i 1 : Nat) < 2048 := (i 1).isLt
  intro a
  match a with
  | ⟨0, _⟩ => show win0_0.index t0_0 0 * win0_0.size 0 ≤ (i 0 : Nat) ∧ (i 0 : Nat) < win0_0.index t0_0 0 * win0_0.size 0 + win0_0.xsize (grid0.coords t0_0) 0
              rw [e.1, e.2.1]; omega
  | ⟨1, _⟩ => show win0_0.index t0_0 1 * win0_0.size 1 ≤ (i 1 : Nat) ∧ (i 1 : Nat) < win0_0.index t0_0 1 * win0_0.size 1 + win0_0.xsize (grid0.coords t0_0) 1
              rw [e.2.2.1, e.2.2.2]; omega

theorem flushed_eq (t : Fin cfg0.N) :
    (dats m ρ 0 c).flushed 0 t = ((cfg0.win 0).blk t).view.read (Elt F) (outV m) := by
  obtain rfl := fin_N0 t
  have ha : (dats m ρ 0 c).after 0 t0_0 = outV m := by dsimp only [dats]
  unfold Pipeline.Dat.flushed
  rw [ha]
  funext y
  rw [View.read_apply]
  have e : ((cfg0.win 0).blk t0_0).view.emb y = (y : S2x2048.Idx) := by
    funext a
    apply Fin.ext
    exact win0_0.rect_emb_val_of_index_zero t0_0 a (by revert a; decide +kernel) y
  rw [e]
  rfl

/-- The result array ends at the summed gather buffer. -/
theorem finalA_eq : finalA m ρ c 0 = outV m :=
  (dats m ρ 0 c).arrAt_eq_of_cover 0 (outV m) (fun t _ => flushed_eq m c ρ t) (fun i => ⟨t0_0, flush0_0 _, mem_win t0_0 i⟩)

/-- From any memory with zero counters the program terminates on the eight devices. Every device's result is `outV`, the
    arguments are unchanged and every counter is at zero. -/
theorem run_main : θ_run defs (onTc (τ := τ) (main (F := F))) (s₀ m ρ) (fun r =>
    (∀ c : Dev nD, r.2.mem ((c : Thread nD τ).loc main_v1) = outV m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h => ⟨fun c => ⟨((h.1 c).1 0).trans (finalA_eq m c ρ), (h.1 c).2.1⟩, h.2⟩) (run_pipeline m ρ)

end Cert.GradSums

end
-- ==== Proof.Frames.lean ====
/-
# Each program terminates, keeps its arguments and leaves every counter at zero
-/
module

public import proofs.«01_k».proof.Defs
public import proofs.«01_k».proof.Proof.Final
public import proofs.«01_k».proof.Proof.Gen.Kernel
public import proofs.«01_k».proof.Proof.Gen.ReferenceIdeal.Run
public import proofs.«01_k».proof.Proof.Gen.Pre_finite_x_KernelIdeal
public import proofs.«01_k».proof.Proof.Gen.Pre_finite_x_ReferenceIdeal
public import Idealize.ShloMosaic.Lib.Quiescent

@[expose] public section

noncomputable section

namespace Cert.GradSums

open Idealize.ShloMosaic Idealize.SL.Sem

/-- The program over words and the one over the extended reals have the same text. -/
theorem defs_same : Cert.Kernel.defs (F := Bits) = Cert.KernelIdeal.defs (F := Bits) := by sl_kernel_rfl
theorem main_same : Cert.Kernel.main (F := Bits) = Cert.KernelIdeal.main (F := Bits) := rfl

/-- The kernel over words: the run holds for every reading of the floats. -/
theorem frame_kernel : Cert.quiescent_Kernel := fun m ρ _ => by
  rw [defs_same, main_same]
  exact (θ_run (Cert.KernelIdeal.defs (F := Bits)) _ _).mono (fun _ h => ⟨fun c => (h.1 c).2, h.2⟩) (run_main (F := Bits) m ρ)

/-- The kernel over the extended reals. -/
theorem frame_ideal : Cert.quiescent_KernelIdeal := fun m ρ _ =>
  (θ_run (Cert.KernelIdeal.defs (F := Ideal)) _ _).mono (fun _ h => ⟨fun c => (h.1 c).2, h.2⟩) (run_main (F := Ideal) m ρ)

/-- The reference over the extended reals: it has no semaphore at all. -/
theorem frame_reference : Cert.quiescent_ReferenceIdeal := fun m ρ _ =>
  (θ_run (Cert.ReferenceIdeal.defs (F := Ideal)) _ _).mono (fun r h => ⟨fun c => (h c).2, sem_eq_zero_of_no_sems rfl _⟩)
    (Cert.ReferenceIdeal.Value.run (F := Ideal) m ρ)

end Cert.GradSums

end
-- ==== Proof.Norm.lean ====
/-
# One row, normalised in two ways

A row of 2048 real numbers. The kernel takes its variance as the mean of the squares less the square of the mean, the
reference as the mean of the squared deviations. Over the reals both are the same, and so are the normalised rows.
-/
module

public import Idealize.ShloMosaic.PureOps.Ideal
public import Idealize.ShloMosaic.PureOps.Ideal.Laws
public import Idealize.ShloMosaic.Lib.IdealHost
public import Mathlib.Algebra.BigOperators.Field
public import Mathlib.Tactic.FieldSimp
public import Mathlib.Tactic.Ring
public import Mathlib.Tactic.Linarith
public import Mathlib.Tactic.Positivity

@[expose] public section

noncomputable section

namespace Cert.GradSums

open Idealize.ShloMosaic

/-- The number of columns, as both programs write it. -/
abbrev cols : EReal := Ideal.ofBits .f32 0x45000000#32
/-- The small number added to the variance. -/
abbrev eps : EReal := Ideal.ofBits .f32 0x3727C5AC#32

theorem cols_eq : cols = ((2048 : ℝ) : EReal) := by
  simp [cols, Ideal.ofBits, Ideal.ieee, -EReal.coe_mul]
  norm_num

theorem eps_pos : ∃ e : ℝ, 0 < e ∧ eps = (e : EReal) := by
  refine ⟨_, ?_, by simp only [eps, Ideal.ofBits, Ideal.ieee]; rw [if_neg (by decide), if_neg (by decide)]⟩
  norm_num
  rw [if_neg (by decide)]
  positivity

/-- The mean of a row. -/
def mean (f : Fin 2048 → EReal) : EReal := Ideal.div (∑ k, f k) cols

/-- An entry of the row as the kernel normalises it. -/
def normK (f : Fin 2048 → EReal) (j : Fin 2048) : EReal :=
  (f j - mean f) * Ideal.rsqrt (Ideal.div (∑ k, f k * f k) cols - mean f * mean f + eps)

/-- An entry of the row as the reference normalises it. -/
def normR (f : Fin 2048 → EReal) (j : Fin 2048) : EReal :=
  (f j - mean f) * Ideal.div 1 (Ideal.sqrt (Ideal.div (∑ k, (f k - mean f) * (f k - mean f)) cols + eps))

theorem sum_coe (g : Fin 2048 → ℝ) : ∑ k, ((g k : ℝ) : EReal) = ((∑ k, g k : ℝ) : EReal) := by
  induction (Finset.univ : Finset (Fin 2048)) using Finset.induction_on with
  | empty => simp
  | insert a s ha ih => rw [Finset.sum_insert ha, Finset.sum_insert ha, ih, EReal.coe_add]

theorem mean_coe (g : Fin 2048 → ℝ) : mean (fun k => (g k : EReal)) = (((∑ k, g k) * (1 / 2048) : ℝ) : EReal) := by
  unfold mean
  rw [cols_eq, Ideal.div_coe (by norm_num), sum_coe, EReal.coe_mul]

/-- The mean of the squared deviations is the mean of the squares less the square of the mean. -/
theorem variance (g : Fin 2048 → ℝ) (μ : ℝ) (hμ : μ = (∑ k, g k) * (1 / 2048)) :
    (∑ k, (g k - μ) * (g k - μ)) * (1 / 2048) = (∑ k, g k * g k) * (1 / 2048) - μ * μ := by
  have h : ∑ k, (g k - μ) * (g k - μ) = ∑ k, g k * g k - 2 * μ * ∑ k, g k + 2048 * (μ * μ) := by
    rw [Finset.mul_sum, ← Finset.sum_sub_distrib]
    have : (2048 : ℝ) * (μ * μ) = ∑ _k : Fin 2048, μ * μ := by simp
    rw [this, ← Finset.sum_add_distrib]
    exact Finset.sum_congr rfl fun k _ => by ring
  rw [h, show ∑ k, g k = 2048 * μ by rw [hμ]; ring]
  ring

/-- A row of real numbers is normalised alike by the kernel and by the reference. -/
theorem norm_same (f : Fin 2048 → EReal) (hf : ∀ k, ∃ r : ℝ, f k = (r : EReal)) (j : Fin 2048) : normK f j = normR f j := by
  choose g hg using hf
  obtain rfl : f = fun k => (g k : EReal) := funext hg
  obtain ⟨e, he, hE⟩ := eps_pos
  unfold normK normR
  rw [mean_coe, cols_eq, hE]
  generalize hμ : (∑ k, g k) * (1 / 2048) = μ
  simp only [← EReal.coe_mul, ← EReal.coe_sub]
  rw [sum_coe, sum_coe, Ideal.div_coe (by norm_num), Ideal.div_coe (by norm_num)]
  simp only [← EReal.coe_mul, ← EReal.coe_sub, ← EReal.coe_add]
  rw [variance g μ hμ.symm]
  generalize hv : (∑ k, g k * g k) * (1 / 2048) - μ * μ + e = v
  have hv0 : 0 < v := by
    rw [← hv, ← variance g μ hμ.symm]
    have : 0 ≤ ∑ k, (g k - μ) * (g k - μ) := Finset.sum_nonneg fun k _ => mul_self_nonneg _
    positivity
  rw [Ideal.rsqrt_coe, Ideal.sqrt_coe, if_neg (not_lt.mpr hv0.le), if_neg hv0.ne', if_neg (not_lt.mpr hv0.le),
    Ideal.div_coe (Real.sqrt_pos.mpr hv0).ne', one_mul, one_div]

end Cert.GradSums

end
-- ==== Proof.KernelSums.lean ====
/-
# What the kernel's result holds, as sums

Over the extended reals the result of the eight devices is a sum over all devices, their four blocks and the 128 rows of
each: of `dy` times the normalised `x` in row 0, of `dy` in row 1.
-/
module

public import proofs.«01_k».proof.Proof.Contents
public import proofs.«01_k».proof.Proof.Norm
public import Idealize.ShloMosaic.Lib.Pointwise

@[expose] public section

noncomputable section

namespace Cert.GradSums

open Cert.KernelIdeal Cert.KernelIdeal.Gen
open Idealize.ShloMosaic Idealize.ShloMosaic.TcCoe

/-! ## One block of 128 rows -/

/-- The normalised entry `(r, j)` of a block of rows. -/
def blockNorm (x : Vec Ideal S1x128x2048 .f32) (r : Fin 128) (j : Fin 2048) : EReal := normK (fun k => x (ValueIdx.ix3 0 r k)) j

set_option maxRecDepth 16384

theorem pay2_apply (x : Vec Ideal S1x128x2048 .f32) (r : Fin 128) (j : Fin 2048) :
    k0_pay2 x (ValueIdx.ix2 r j) = blockNorm x r j := by
  pointwise [k0_pay2, blockNorm, normK, mean]
  rfl

theorem pay6_eq (x : Vec Ideal S1x128x2048 .f32) : k0_pay6 x = k0_pay2 x := rfl
theorem pay10_eq (x : Vec Ideal S1x128x2048 .f32) : k0_pay10 x = k0_pay2 x := rfl
theorem pay16_17 (x : Vec Ideal S1x128x2048 .f32) : mulf (k0_pay16 x) (k0_pay17 x) = k0_pay2 x := rfl

theorem sumG (v : FVec Ideal S128x2048 .f32) (y : Vec Ideal S1x128x2048 .f32) (j : Fin 2048) :
    k0_pay4 v y (ValueIdx.ix1 j) = ∑ r : Fin 128, y (ValueIdx.ix3 0 r j) * v (ValueIdx.ix2 r j) := by
  pointwise [k0_pay4, k0_pay3]
  rfl

theorem sumB (y : Vec Ideal S1x128x2048 .f32) (j : Fin 2048) :
    k0_pay5 y (ValueIdx.ix1 j) = ∑ r : Fin 128, y (ValueIdx.ix3 0 r j) := by
  pointwise [k0_pay5, k0_pay3]
  rfl

theorem next8 (a : FVec Ideal S2048 .f32) (v : FVec Ideal S128x2048 .f32) (y : Vec Ideal S1x128x2048 .f32) :
    k0_pay8 a v y = addf a (k0_pay4 v y) := rfl
theorem next9 (a : FVec Ideal S2048 .f32) (y : Vec Ideal S1x128x2048 .f32) : k0_pay9 a y = addf a (k0_pay5 y) := rfl
theorem next12 (a : FVec Ideal S2048 .f32) (v : FVec Ideal S128x2048 .f32) (y : Vec Ideal S1x128x2048 .f32) :
    k0_pay12 a v y = addf a (k0_pay4 v y) := rfl
theorem next13 (a : FVec Ideal S2048 .f32) (y : Vec Ideal S1x128x2048 .f32) : k0_pay13 a y = addf a (k0_pay5 y) := rfl

theorem pay19_eq (a : FVec Ideal S2048 .f32) (x y : Vec Ideal S1x128x2048 .f32) :
    k0_pay19 a (k0_pay16 x) (k0_pay17 x) y = shapeCast S1x1x2048 (addf a (k0_pay4 (k0_pay2 x) y)) shapeCasts_S2048_S1x1x2048 := rfl
theorem pay20_eq (a : FVec Ideal S2048 .f32) (y : Vec Ideal S1x128x2048 .f32) :
    k0_pay20 a y = shapeCast S1x1x2048 (addf a (k0_pay5 y)) shapeCasts_S2048_S1x1x2048 := rfl

theorem cast_apply (w : FVec Ideal S2048 .f32) (j : Fin 2048) :
    shapeCast S1x1x2048 w shapeCasts_S2048_S1x1x2048 (ValueIdx.ix3 0 0 j) = w (ValueIdx.ix1 j) := by
  pointwise []
  rfl

/-! ## One device -/

variable (m : (ℓ : Loc nD τ sig) → Buf (Elt Ideal) ℓ)

/-- The row of its array at which device `c` finds row `r` of its block `k`. -/
def rowAt (c : Dev nD) (k : Fin 4) (r : Fin 128) : Fin 2048 :=
  ⟨start c + 128 * k.val + r.val, by have := start_le c; have := k.isLt; have := r.isLt; omega⟩

/-- The array `x` of device `c`. -/
abbrev xOf (c : Dev nD) : S2048x2048.Idx → EReal := m ((c : Thread nD τ).loc main_arg0)
/-- The array `dy` of device `c`. -/
abbrev yOf (c : Dev nD) : S2048x2048.Idx → EReal := m ((c : Thread nD τ).loc main_arg1)

theorem vx_apply (c : Dev nD) (k : Fin 4) (r : Fin 128) (j : Fin 2048) :
    vx m c k (ValueIdx.ix3 0 r j) = xOf m c (ValueIdx.ix2 (rowAt c k r) j) := by
  refine congrArg (xOf m c) (funext fun b => Fin.ext ?_)
  match b with
  | ⟨0, _⟩ => show start c + 128 * (k.val + 1 * 0) + (0 + 1 * r.val) = start c + 128 * k.val + r.val; omega
  | ⟨1, _⟩ => show 0 + 1 * j.val = j.val; omega

theorem vy_apply (c : Dev nD) (k : Fin 4) (r : Fin 128) (j : Fin 2048) :
    vy m c k (ValueIdx.ix3 0 r j) = yOf m c (ValueIdx.ix2 (rowAt c k r) j) := by
  refine congrArg (yOf m c) (funext fun b => Fin.ext ?_)
  match b with
  | ⟨0, _⟩ => show start c + 128 * (k.val + 1 * 0) + (0 + 1 * r.val) = start c + 128 * k.val + r.val; omega
  | ⟨1, _⟩ => show 0 + 1 * j.val = j.val; omega

/-- The contribution of a block to column `j` of the first row. -/
theorem blockG (c : Dev nD) (k : Fin 4) (j : Fin 2048) :
    k0_pay4 (k0_pay2 (vx m c k)) (vy m c k) (ValueIdx.ix1 j)
      = ∑ r : Fin 128, yOf m c (ValueIdx.ix2 (rowAt c k r) j) * normK (fun l => xOf m c (ValueIdx.ix2 (rowAt c k r) l)) j := by
  rw [sumG]
  refine Finset.sum_congr rfl fun r _ => ?_
  rw [pay2_apply, vy_apply, blockNorm]
  simp only [vx_apply]

/-- The contribution of a block to column `j` of the second row. -/
theorem blockB (c : Dev nD) (k : Fin 4) (j : Fin 2048) :
    k0_pay5 (vy m c k) (ValueIdx.ix1 j) = ∑ r : Fin 128, yOf m c (ValueIdx.ix2 (rowAt c k r) j) := by
  rw [sumB]
  exact Finset.sum_congr rfl fun r _ => vy_apply m c k r j

theorem row0_apply (c : Dev nD) (j : Fin 2048) :
    row0 m c (ValueIdx.ix3 0 0 j) = ∑ k : Fin 4, ∑ r : Fin 128,
      yOf m c (ValueIdx.ix2 (rowAt c k r) j) * normK (fun l => xOf m c (ValueIdx.ix2 (rowAt c k r) l)) j := by
  rw [Fin.sum_univ_four, ← blockG, ← blockG, ← blockG, ← blockG, row0, pay19_eq, cast_apply, accG3, next12, accG2, next8,
    accG1, pay6_eq, pay10_eq]
  rfl

theorem row1_apply (c : Dev nD) (j : Fin 2048) :
    row1 m c (ValueIdx.ix3 0 0 j) = ∑ k : Fin 4, ∑ r : Fin 128, yOf m c (ValueIdx.ix2 (rowAt c k r) j) := by
  rw [Fin.sum_univ_four, ← blockB, ← blockB, ← blockB, ← blockB, row1, pay20_eq, cast_apply, accB3, next13, accB2, next9,
    accB1]
  rfl

/-! ## All devices -/

theorem pay1_apply (g : Vec Ideal S8x2x2048 .f32) (a : Fin 2) (j : Fin 2048) :
    k0_pay1 g (ValueIdx.ix2 a j) = ∑ p : Fin 8, g (ValueIdx.ix3 p a j) := by
  pointwise [k0_pay1]
  rfl

theorem out0 (j : Fin 2048) :
    outV m (ValueIdx.ix2 0 j) = ∑ p : Dev nD, ∑ k : Fin 4, ∑ r : Fin 128,
      yOf m p (ValueIdx.ix2 (rowAt p k r) j) * normK (fun l => xOf m p (ValueIdx.ix2 (rowAt p k r) l)) j := by
  rw [outV, pay1_apply]
  exact Finset.sum_congr rfl fun p _ => row0_apply m p j

theorem out1 (j : Fin 2048) :
    outV m (ValueIdx.ix2 1 j) = ∑ p : Dev nD, ∑ k : Fin 4, ∑ r : Fin 128, yOf m p (ValueIdx.ix2 (rowAt p k r) j) := by
  rw [outV, pay1_apply]
  exact Finset.sum_congr rfl fun p _ => row1_apply m p j

end Cert.GradSums

end
-- ==== Proof.RefSums.lean ====
/-
# What the reference's result holds, as sums

Over the extended reals the reference's result is a sum over its 4096 rows: of `dy` times the normalised `x` in row 0,
of `dy` in row 1.
-/
module

public import proofs.«01_k».proof.Proof.Gen.ReferenceIdeal.Run
public import proofs.«01_k».proof.Proof.Norm
public import Idealize.ShloMosaic.Lib.Pointwise

@[expose] public section

noncomputable section

namespace Cert.GradSums

open Cert.ReferenceIdeal Cert.ReferenceIdeal.Gen
open Idealize.ShloMosaic Idealize.ShloMosaic.TcCoe

/-- Each row's mean. -/
def refMean (x : FVec Ideal S4096x2048 .f32) : FVec Ideal S4096x1 .f32 :=
  Host.divf (broadcastInDim S4096x1 ![0] bcast_S4096_S4096x1_0 (Host.reduceAdd x (constant S_ .f32 0x00000000#32) reducesTo_S4096x2048_S4096_d1 h_S_)) (broadcastInDim S4096x1 ![] bcast_S_S4096x1 (constant S_ .f32 0x45000000#32))

/-- `x` less its row's mean. -/
def refDev (x : FVec Ideal S4096x2048 .f32) : FVec Ideal S4096x2048 .f32 :=
  subf x (broadcastInDim S4096x2048 ![0, 1] bcast_S4096x1_S4096x2048_0_1 (refMean x))

/-- The number of entries that a variance divides by. -/
def refCount : FVec Ideal S_ .f32 :=
  subf (constant S_ .f32 0x45000000#32) (sitofp .f32 (constantI S_ 32 0#32))

/-- Each row's variance. -/
def refVar (x : FVec Ideal S4096x2048 .f32) : FVec Ideal S4096x1 .f32 :=
  select (broadcastInDim S4096x1 ![] bcast_S_S4096x1 (cmpf .ogt refCount (constant S_ .f32 0x00000000#32)))
    (Host.divf (broadcastInDim S4096x1 ![0] bcast_S4096_S4096x1_0 (Host.reduceAdd (mulf (refDev x) (refDev x)) (constant S_ .f32 0x00000000#32) reducesTo_S4096x2048_S4096_d1 h_S_)) (broadcastInDim S4096x1 ![] bcast_S_S4096x1 refCount))
    (broadcastInDim S4096x1 ![] bcast_S_S4096x1 (id (constant S_ .f32 0x7FC00000#32)))

/-- Each row's reciprocal standard deviation. -/
def refRstd (x : FVec Ideal S4096x2048 .f32) : FVec Ideal S4096x1 .f32 :=
  Host.divf (broadcastInDim S4096x1 ![] bcast_S_S4096x1 (constant S_ .f32 0x3F800000#32))
    (Host.sqrt (addf (refVar x) (broadcastInDim S4096x1 ![] bcast_S_S4096x1 (constant S_ .f32 0x3727C5AC#32))))

/-- `x` normalised. -/
def refNorm (x : FVec Ideal S4096x2048 .f32) : FVec Ideal S4096x2048 .f32 :=
  mulf (refDev x) (broadcastInDim S4096x2048 ![0, 1] bcast_S4096x1_S4096x2048_0_1 (refRstd x))

/-- The sum of each column. -/
def refCols (v : FVec Ideal S4096x2048 .f32) : FVec Ideal S2048 .f32 :=
  Host.reduceAdd v (constant S_ .f32 0x00000000#32) reducesTo_S4096x2048_S2048_d0 h_S_

/-- The reference's result as a function of `x` and `dy`. -/
def refV (x y : FVec Ideal S4096x2048 .f32) : FVec Ideal S2x2048 .f32 :=
  concatenate S2x2048 0 [⟨S1x2048, (broadcastInDim S1x2048 ![1] bcast_S2048_S1x2048_1 (refCols (mulf y (refNorm x))))⟩, ⟨S1x2048, (broadcastInDim S1x2048 ![1] bcast_S2048_S1x2048_1 (refCols y))⟩] concatenates_S1x2048_S1x2048_S2x2048_d0

set_option maxRecDepth 16384

theorem refMean_apply (x : FVec Ideal S4096x2048 .f32) (i : Fin 4096) :
    refMean x (ValueIdx.ix2 i 0) = mean fun l => x (ValueIdx.ix2 i l) := by
  pointwise [refMean, mean]
  rfl

theorem refDev_apply (x : FVec Ideal S4096x2048 .f32) (i : Fin 4096) (j : Fin 2048) :
    refDev x (ValueIdx.ix2 i j) = x (ValueIdx.ix2 i j) - mean fun l => x (ValueIdx.ix2 i l) := by
  rw [← refMean_apply]
  pointwise [refDev]
  rfl

theorem refCount_apply (i : S_.Idx) : refCount i = cols := by
  pointwise [refCount]
  have h : (FloatOps.sitofp .f32 (0#32 : BitVec 32) : Ideal .f32) = (0 : EReal) := by
    show (((0#32 : BitVec 32).toInt : ℝ) : EReal) = 0
    simp
  rw [h]
  exact sub_zero _

theorem refVar_apply (x : FVec Ideal S4096x2048 .f32) (i : Fin 4096) :
    refVar x (ValueIdx.ix2 i 0)
      = Ideal.div (∑ k, (x (ValueIdx.ix2 i k) - mean fun l => x (ValueIdx.ix2 i l)) * (x (ValueIdx.ix2 i k) - mean fun l => x (ValueIdx.ix2 i l))) cols := by
  simp only [← refDev_apply]
  pointwise [refVar]
  rw [refCount_apply, if_pos (by rw [cols_eq]; exact_mod_cast (by norm_num : (0 : ℝ) < 2048))]
  rfl

theorem refRstd_apply (x : FVec Ideal S4096x2048 .f32) (i : Fin 4096) :
    refRstd x (ValueIdx.ix2 i 0) = Ideal.div 1 (Ideal.sqrt (refVar x (ValueIdx.ix2 i 0) + eps)) := by
  pointwise [refRstd]

theorem refNorm_apply (x : FVec Ideal S4096x2048 .f32) (i : Fin 4096) (j : Fin 2048) :
    refNorm x (ValueIdx.ix2 i j) = normR (fun l => x (ValueIdx.ix2 i l)) j := by
  rw [normR, ← refVar_apply, ← refRstd_apply, ← refDev_apply]
  pointwise [refNorm]
  rfl

theorem refCols_apply (v : FVec Ideal S4096x2048 .f32) (j : Fin 2048) :
    refCols v (ValueIdx.ix1 j) = ∑ i : Fin 4096, v (ValueIdx.ix2 i j) := by
  pointwise [refCols]
  rfl

theorem ref0 (x y : FVec Ideal S4096x2048 .f32) (j : Fin 2048) :
    refV x y (ValueIdx.ix2 0 j) = ∑ i : Fin 4096, y (ValueIdx.ix2 i j) * normR (fun l => x (ValueIdx.ix2 i l)) j := by
  have h : refV x y (ValueIdx.ix2 0 j) = refCols (mulf y (refNorm x)) (ValueIdx.ix1 j) := by
    pointwise [refV]
    rfl
  rw [h, refCols_apply]
  exact Finset.sum_congr rfl fun i _ => congrArg (y (ValueIdx.ix2 i j) * ·) (refNorm_apply x i j)

theorem ref1 (x y : FVec Ideal S4096x2048 .f32) (j : Fin 2048) :
    refV x y (ValueIdx.ix2 1 j) = ∑ i : Fin 4096, y (ValueIdx.ix2 i j) := by
  have h : refV x y (ValueIdx.ix2 1 j) = refCols y (ValueIdx.ix1 j) := by
    pointwise [refV]
    rfl
  rw [h, refCols_apply]

end Cert.GradSums

end
-- ==== Proof.Regroup.lean ====
/-
# The rows of all devices are the rows of the whole array

Row `r` of block `k` of device `d` is one row of the whole array of 4096 rows, and every row is met once. So a sum over
devices, blocks and rows is the sum over the whole array's rows, in any commutative monoid.
-/
module

public import proofs.«01_k».proof.Proof.Contents
public import Mathlib.Algebra.BigOperators.Group.Finset.Basic
public import Mathlib.Data.Fintype.BigOperators

@[expose] public section

noncomputable section

namespace Cert.GradSums

open Cert.KernelIdeal
open Idealize.ShloMosaic

/-- The row of the whole array that device `d` holds as row `r` of its block `k`. -/
def wholeRow (d : Fin 8) (k : Fin 4) (r : Fin 128) : Fin 4096 :=
  ⟨2048 * (d.val / 2 % 2) + (1024 * (d.val / 4) + 512 * (d.val % 2) + 128 * k.val + r.val), by omega⟩

theorem wholeRow_injective : Function.Injective fun t : Fin 8 × Fin 4 × Fin 128 => wholeRow t.1 t.2.1 t.2.2 := by
  rintro ⟨d, k, r⟩ ⟨d', k', r'⟩ h
  have h' : 2048 * (d.val / 2 % 2) + (1024 * (d.val / 4) + 512 * (d.val % 2) + 128 * k.val + r.val)
      = 2048 * (d'.val / 2 % 2) + (1024 * (d'.val / 4) + 512 * (d'.val % 2) + 128 * k'.val + r'.val) := congrArg Fin.val h
  have e : ∀ a : Fin 8, a.val = 4 * (a.val / 4) + 2 * (a.val / 2 % 2) + a.val % 2 ∧ a.val / 4 < 2 ∧ a.val / 2 % 2 < 2 ∧ a.val % 2 < 2 := by
    decide
  obtain ⟨h1, h2, h3, h4⟩ := e d
  obtain ⟨h1', h2', h3', h4'⟩ := e d'
  have hk4 := k.isLt
  have hk4' := k'.isLt
  have hr4 := r.isLt
  have hr4' := r'.isLt
  have key : d.val = d'.val ∧ k.val = k'.val ∧ r.val = r'.val := by
    rw [h1, h1']
    clear h1 h1' h e
    generalize d.val / 4 = a, d.val / 2 % 2 = b, d.val % 2 = c, d'.val / 4 = a', d'.val / 2 % 2 = b', d'.val % 2 = c' at *
    omega
  have hd : d = d' := Fin.ext key.1
  have hk : k = k' := Fin.ext key.2.1
  have hr : r = r' := Fin.ext key.2.2
  rw [hd, hk, hr]

/-- A sum over the devices, their blocks and the blocks' rows is the sum over all rows. -/
theorem sum_rows {M : Type} [AddCommMonoid M] (f : Fin 4096 → M) :
    ∑ d : Fin 8, ∑ k : Fin 4, ∑ r : Fin 128, f (wholeRow d k r) = ∑ i : Fin 4096, f i := by
  have hb : Function.Bijective fun t : Fin 8 × Fin 4 × Fin 128 => wholeRow t.1 t.2.1 t.2.2 :=
    (Fintype.bijective_iff_injective_and_card _).2 ⟨wholeRow_injective, by simp⟩
  rw [← hb.sum_comp f, Fintype.sum_prod_type]
  exact Finset.sum_congr rfl fun d _ =>
    (Fintype.sum_prod_type fun t : Fin 4 × Fin 128 => f (wholeRow d t.1 t.2)).symm

end Cert.GradSums

end
-- ==== Proof.Finite.lean ====
/-
# What the precondition says

It holds exactly where it should: if it is true of a device, every entry of that device's `x` is a real number.
-/
module

public import proofs.«01_k».proof.Pre_finite_x_KernelIdeal
public import proofs.«01_k».proof.Proof.Gen.Pre_finite_x_KernelIdeal
public import Idealize.ShloMosaic.PureOps.Reduce
public import Idealize.ShloMosaic.PureOps.Ideal.Laws
public import Idealize.ShloMosaic.Lib.Affine
public import Idealize.ShloMosaic.Lib.ReduceAll

@[expose] public section

noncomputable section

namespace Cert.GradSums

open Idealize.ShloMosaic
open Cert.Pre_finite_x_KernelIdeal Cert.Pre_finite_x_KernelIdeal.Gen

/-- A number whose absolute value is below infinity is real. -/
theorem real_of_abs_lt (a : EReal) (h : max a (-a) < ⊤) : ∃ r : ℝ, a = r := by
  refine ⟨a.toReal, (EReal.coe_toReal ?_ ?_).symm⟩
  · rintro rfl; simp at h
  · rintro rfl; simp at h

theorem finite_of_pre (x y : FVec Ideal S2048x2048 .f32) (w : FVec Ideal S2048 .f32)
    (h : fn (F := Ideal) x y w = fun _ => 1#1) (i : S2048x2048.Idx) : ∃ r : ℝ, x i = r := by
  have h0 := congrFun h (fun b => b.elim0)
  unfold fn at h0
  haveI : Subsingleton S_.Idx := ⟨fun a b => funext fun c => c.elim0⟩
  have h1 := Host.reduce_andi_all _ _ _ _ _ h0 i
  refine real_of_abs_lt _ ?_
  have h2 : Ideal.cmp .olt (max (x i) (-x i)) (Ideal.ofBits .f32 0x7F800000#32) = 1#1 := h1
  have ht : Ideal.ofBits .f32 0x7F800000#32 = ⊤ := by simp [Ideal.ofBits, Ideal.ieee]
  rw [ht] at h2
  by_contra hn
  simp [Ideal.cmp, hn] at h2

end Cert.GradSums

end
-- ==== Proof.Algebra.lean ====
/-
# Kernel and reference compute the same

Over the extended reals, where every entry of `x` is real, the kernel leaves on each of the eight devices the
reference's whole result, when each device starts with its half of the reference's rows.
-/
module

public import proofs.«01_k».proof.Defs
public import proofs.«01_k».proof.Proof.Final
public import proofs.«01_k».proof.Proof.KernelSums
public import proofs.«01_k».proof.Proof.RefSums
public import proofs.«01_k».proof.Proof.Regroup
public import proofs.«01_k».proof.Proof.Finite

@[expose] public section

noncomputable section

namespace Cert.GradSums

open Idealize.ShloMosaic Idealize.SL.Sem
open Cert.KernelIdeal

/-- A device's half of an array of 4096 rows. -/
abbrev half (c : Dev nD) (v : (⟨2, ![4096, 2048]⟩ : Shape).Idx → EReal) : (⟨2, ![2048, 2048]⟩ : Shape).Idx → EReal :=
  Layout.blockN ⟨2, ![2048, 2048]⟩ ⟨2, ![4096, 2048]⟩ (Layout.meshBlock [2, 2, 2] ![[1], []] c) v

theorem half_block (c : Dev nD) : ((Layout.meshBlock [2, 2, 2] ![[1], []] c : (b : Fin 2) → _) 0).val = c.val / 2 % 2 := by
  revert c; decide

theorem half_col (c : Dev nD) : ((Layout.meshBlock [2, 2, 2] ![[1], []] c : (b : Fin 2) → _) 1).val = 0 := by
  revert c; decide

/-- Row `r` of a device's block `k` is row `wholeRow c k r` of the whole array. -/
theorem half_apply (c : Dev nD) (v : (⟨2, ![4096, 2048]⟩ : Shape).Idx → EReal) (k : Fin 4) (r : Fin 128) (j : Fin 2048) :
    half c v (ValueIdx.ix2 (rowAt c k r) j) = v (ValueIdx.ix2 (wholeRow c k r) j) := by
  refine congrArg v (funext fun b => Fin.ext ?_)
  match b with
  | ⟨0, _⟩ =>
    show ((Layout.meshBlock [2, 2, 2] ![[1], []] c : (b : Fin 2) → _) 0).val * 2048 + (start c + 128 * k.val + r.val)
      = 2048 * (c.val / 2 % 2) + (1024 * (c.val / 4) + 512 * (c.val % 2) + 128 * k.val + r.val)
    rw [half_block, start]; omega
  | ⟨1, _⟩ =>
    show ((Layout.meshBlock [2, 2, 2] ![[1], []] c : (b : Fin 2) → _) 1).val * 2048 + j.val = j.val
    rw [half_col]; omega

/-- The kernel's result is the reference's, where every entry of `x` is real. -/
theorem out_eq (m : (ℓ : Loc nD τ sig) → Buf (Elt Ideal) ℓ) (x y : (⟨2, ![4096, 2048]⟩ : Shape).Idx → EReal)
    (hx : ∀ c : Dev nD, xOf m c = half c x) (hy : ∀ c : Dev nD, yOf m c = half c y)
    (hfin : ∀ (c : Dev nD) (i : (⟨2, ![2048, 2048]⟩ : Shape).Idx), ∃ r : ℝ, xOf m c i = r) :
    outV m = refV x y := by
  funext i
  have hi : i = ValueIdx.ix2 (i 0) (i 1) := by
    funext b
    match b with
    | ⟨0, _⟩ => rfl
    | ⟨1, _⟩ => rfl
  have key0 : ∀ j : Fin 2048, outV m (ValueIdx.ix2 0 j) = refV x y (ValueIdx.ix2 0 j) := fun j => by
    rw [out0, ref0, ← sum_rows]
    refine Finset.sum_congr rfl fun c _ => Finset.sum_congr rfl fun k _ => Finset.sum_congr rfl fun r _ => ?_
    rw [norm_same _ (fun l => hfin c _)]
    simp only [hx, hy, half_apply]
  have key1 : ∀ j : Fin 2048, outV m (ValueIdx.ix2 1 j) = refV x y (ValueIdx.ix2 1 j) := fun j => by
    rw [out1, ref1, ← sum_rows]
    refine Finset.sum_congr rfl fun c _ => Finset.sum_congr rfl fun k _ => Finset.sum_congr rfl fun r _ => ?_
    simp only [hy, half_apply]
  have key : ∀ (a : Fin 2) (j : Fin 2048), outV m (ValueIdx.ix2 a j) = refV x y (ValueIdx.ix2 a j) := fun a =>
    match a with
    | 0 => key0
    | 1 => key1
  exact (congrArg (outV m) hi).trans ((key (i 0) (i 1)).trans (congrArg (refV x y) hi.symm))

/-- The algebraic claim. -/
theorem algebraic : Cert.algebraic_KernelIdeal_ReferenceIdeal_pre_finite_x_KernelIdeal
    (hKernelIdeal := Cert.KernelIdeal.Gen.facts) (hReferenceIdeal := Cert.ReferenceIdeal.Gen.facts)
    (hPre_finite_x_KernelIdeal := Cert.Pre_finite_x_KernelIdeal.Gen.facts) := by
  intro m g m' g' hpre hargs
  refine ⟨outV m, (θ_run _ _ _).mono (fun r h c => h.1 c) (run_main (F := Ideal) m g),
    (θ_run _ _ _).mono (fun r h => ?_) (Cert.ReferenceIdeal.Value.run (F := Ideal) m' g')⟩
  refine ⟨(h 0).1.trans ?_, (h 0).2⟩
  exact (out_eq m _ _ (fun c => (hargs c).1) (fun c => (hargs c).2.1) (fun c i => finite_of_pre _ _ _ (hpre c) i)).symm

end Cert.GradSums

end
-- ==== Proof.lean ====
/-
# The certificate

The frames of the three programs, the idealisation and the algebraic claim, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_x_KernelIdeal
public import proofs.«01_k».proof.Proof.Gen.Pre_finite_x_ReferenceIdeal
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim :=
  ⟨Cert.Kernel.Gen.facts, Cert.KernelIdeal.Gen.facts, Cert.ReferenceIdeal.Gen.facts,
    Cert.Pre_finite_x_KernelIdeal.Gen.facts, Cert.Pre_finite_x_ReferenceIdeal.Gen.facts,
    Cert.GradSums.frame_kernel, Cert.GradSums.frame_ideal, fun m ρ _ => Cert.GradSums.frame_ideal m ρ trivial,
    Cert.GradSums.frame_reference, fun m ρ _ => Cert.GradSums.frame_reference m ρ trivial,
    trivial, Cert.GradSums.algebraic⟩

end Cert.Proof

end
